-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1x256 : Shape := ⟨2, ![1, 256]⟩
abbrev S7x1x256 : Shape := ⟨3, ![7, 1, 256]⟩
abbrev S7 : Shape := ⟨1, ![7]⟩
abbrev S_ : Shape := ⟨0, ![]⟩
abbrev S256 : Shape := ⟨1, ![256]⟩
abbrev S1 : Shape := ⟨1, ![1]⟩
abbrev S1x1x256 : Shape := ⟨3, ![1, 1, 256]⟩
abbrev S7x256 : Shape := ⟨2, ![7, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .local _ .vmem, ⟨0, _⟩ => ⟨S256x256, .bf16⟩
  | .local _ .vmem, ⟨1, _⟩ => ⟨S256x256, .bf16⟩
  | .local _ .vmem, ⟨2, _⟩ => ⟨S1x256, .f32⟩
  | .local _ .vmem, ⟨3, _⟩ => ⟨S7x1x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_155 : BitVec 32 := 1#32
  let v149 : BitVec 32 := Scalar.subi v2 c1_i32_155
  let c1_i32_157 : BitVec 32 := 1#32
  let v150 : BitVec 32 := Scalar.muli v149 c1_i32_157
  let v151 : BitVec 32 := Scalar.addi c0_i32_158 v150
  v151.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_155 : BitVec 32 := 2#32
  let v149 : BitVec 32 := Scalar.subi v2 c2_i32_155
  let c1_i32_157 : BitVec 32 := 1#32
  let v150 : BitVec 32 := Scalar.muli v149 c1_i32_157
  let v151 : BitVec 32 := Scalar.addi c0_i32_158 v150
  v151.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_155 : BitVec 32 := 3#32
  let v149 : BitVec 32 := Scalar.subi v2 c3_i32_155
  let c1_i32_157 : BitVec 32 := 1#32
  let v150 : BitVec 32 := Scalar.muli v149 c1_i32_157
  let v151 : BitVec 32 := Scalar.addi c0_i32_158 v150
  v151.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 1 := Scalar.cmpi .sge v2 c4_i32
  let v14 : BitVec 32 := Scalar.extui v13
  let c0_i32_3 : BitVec 32 := 0#32
  let v15 : BitVec 1 := Scalar.cmpi .ne v14 c0_i32_3
  v15

def k0_dev4 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v149 : BitVec 32 := Scalar.subi v2 c4_i32_155
  let c1_i32_157 : BitVec 32 := 1#32
  let v150 : BitVec 32 := Scalar.muli v149 c1_i32_157
  let v151 : BitVec 32 := Scalar.addi c0_i32_158 v150
  v151.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 1 := Scalar.cmpi .sge v2 c5_i32
  let v17 : BitVec 32 := Scalar.extui v16
  let c0_i32_4 : BitVec 32 := 0#32
  let v18 : BitVec 1 := Scalar.cmpi .ne v17 c0_i32_4
  v18

def k0_dev5 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_155 : BitVec 32 := 5#32
  let v149 : BitVec 32 := Scalar.subi v2 c5_i32_155
  let c1_i32_157 : BitVec 32 := 1#32
  let v150 : BitVec 32 := Scalar.muli v149 c1_i32_157
  let v151 : BitVec 32 := Scalar.addi c0_i32_158 v150
  v151.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 1 := Scalar.cmpi .sge v2 c6_i32
  let v20 : BitVec 32 := Scalar.extui v19
  let c0_i32_5 : BitVec 32 := 0#32
  let v21 : BitVec 1 := Scalar.cmpi .ne v20 c0_i32_5
  v21

def k0_dev6 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_155 : BitVec 32 := 6#32
  let v149 : BitVec 32 := Scalar.subi v2 c6_i32_155
  let c1_i32_157 : BitVec 32 := 1#32
  let v150 : BitVec 32 := Scalar.muli v149 c1_i32_157
  let v151 : BitVec 32 := Scalar.addi c0_i32_158 v150
  v151.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 1 := Scalar.cmpi .sge v2 c7_i32
  let v23 : BitVec 32 := Scalar.extui v22
  let c0_i32_6 : BitVec 32 := 0#32
  let v24 : BitVec 1 := Scalar.cmpi .ne v23 c0_i32_6
  v24

def k0_dev7 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_155 : BitVec 32 := 7#32
  let v149 : BitVec 32 := Scalar.subi v2 c7_i32_155
  let c1_i32_157 : BitVec 32 := 1#32
  let v150 : BitVec 32 := Scalar.muli v149 c1_i32_157
  let v151 : BitVec 32 := Scalar.addi c0_i32_158 v150
  v151.toNat
def k0_amt1 (d0 : Dev nD) : BitVec 32 :=
  let c7_i32_10 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v33 : BitVec 32 := Scalar.subi c7_i32_10 v2
  v33

def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v36 : BitVec 32 := Scalar.addi v2 c1_i32_13
  let c8_i32_14 : BitVec 32 := 8#32
  let v37 : BitVec 1 := Scalar.cmpi .slt v36 c8_i32_14
  let v38 : BitVec 32 := Scalar.extui v37
  let c0_i32_18 : BitVec 32 := 0#32
  let v39 : BitVec 1 := Scalar.cmpi .ne v38 c0_i32_18
  v39

def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v34 : BitVec 32 := Scalar.addi v2 c1_i32_11
  let c8_i32_12 : BitVec 32 := 8#32
  let v35 : BitVec 32 := Scalar.remsi v34 c8_i32_12
  let c1_i32_155 : BitVec 32 := 1#32
  let v149 : BitVec 32 := Scalar.muli v35 c1_i32_155
  let v150 : BitVec 32 := Scalar.addi c0_i32_156 v149
  v150.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_21 : BitVec 32 := 2#32
  let v42 : BitVec 32 := Scalar.addi v2 c2_i32_21
  let c8_i32_22 : BitVec 32 := 8#32
  let v43 : BitVec 1 := Scalar.cmpi .slt v42 c8_i32_22
  let v44 : BitVec 32 := Scalar.extui v43
  let c0_i32_26 : BitVec 32 := 0#32
  let v45 : BitVec 1 := Scalar.cmpi .ne v44 c0_i32_26
  v45

def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_19 : BitVec 32 := 2#32
  let v40 : BitVec 32 := Scalar.addi v2 c2_i32_19
  let c8_i32_20 : BitVec 32 := 8#32
  let v41 : BitVec 32 := Scalar.remsi v40 c8_i32_20
  let c1_i32_155 : BitVec 32 := 1#32
  let v149 : BitVec 32 := Scalar.muli v41 c1_i32_155
  let v150 : BitVec 32 := Scalar.addi c0_i32_156 v149
  v150.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v48 : BitVec 32 := Scalar.addi v2 c3_i32_29
  let c8_i32_30 : BitVec 32 := 8#32
  let v49 : BitVec 1 := Scalar.cmpi .slt v48 c8_i32_30
  let v50 : BitVec 32 := Scalar.extui v49
  let c0_i32_34 : BitVec 32 := 0#32
  let v51 : BitVec 1 := Scalar.cmpi .ne v50 c0_i32_34
  v51

def k0_dev10 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v46 : BitVec 32 := Scalar.addi v2 c3_i32_27
  let c8_i32_28 : BitVec 32 := 8#32
  let v47 : BitVec 32 := Scalar.remsi v46 c8_i32_28
  let c1_i32_155 : BitVec 32 := 1#32
  let v149 : BitVec 32 := Scalar.muli v47 c1_i32_155
  let v150 : BitVec 32 := Scalar.addi c0_i32_156 v149
  v150.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v54 : BitVec 32 := Scalar.addi v2 c4_i32_37
  let c8_i32_38 : BitVec 32 := 8#32
  let v55 : BitVec 1 := Scalar.cmpi .slt v54 c8_i32_38
  let v56 : BitVec 32 := Scalar.extui v55
  let c0_i32_42 : BitVec 32 := 0#32
  let v57 : BitVec 1 := Scalar.cmpi .ne v56 c0_i32_42
  v57

def k0_dev11 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_35 : BitVec 32 := 4#32
  let v52 : BitVec 32 := Scalar.addi v2 c4_i32_35
  let c8_i32_36 : BitVec 32 := 8#32
  let v53 : BitVec 32 := Scalar.remsi v52 c8_i32_36
  let c1_i32_155 : BitVec 32 := 1#32
  let v149 : BitVec 32 := Scalar.muli v53 c1_i32_155
  let v150 : BitVec 32 := Scalar.addi c0_i32_156 v149
  v150.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_45 : BitVec 32 := 5#32
  let v60 : BitVec 32 := Scalar.addi v2 c5_i32_45
  let c8_i32_46 : BitVec 32 := 8#32
  let v61 : BitVec 1 := Scalar.cmpi .slt v60 c8_i32_46
  let v62 : BitVec 32 := Scalar.extui v61
  let c0_i32_50 : BitVec 32 := 0#32
  let v63 : BitVec 1 := Scalar.cmpi .ne v62 c0_i32_50
  v63

def k0_dev12 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_43 : BitVec 32 := 5#32
  let v58 : BitVec 32 := Scalar.addi v2 c5_i32_43
  let c8_i32_44 : BitVec 32 := 8#32
  let v59 : BitVec 32 := Scalar.remsi v58 c8_i32_44
  let c1_i32_155 : BitVec 32 := 1#32
  let v149 : BitVec 32 := Scalar.muli v59 c1_i32_155
  let v150 : BitVec 32 := Scalar.addi c0_i32_156 v149
  v150.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_53 : BitVec 32 := 6#32
  let v66 : BitVec 32 := Scalar.addi v2 c6_i32_53
  let c8_i32_54 : BitVec 32 := 8#32
  let v67 : BitVec 1 := Scalar.cmpi .slt v66 c8_i32_54
  let v68 : BitVec 32 := Scalar.extui v67
  let c0_i32_58 : BitVec 32 := 0#32
  let v69 : BitVec 1 := Scalar.cmpi .ne v68 c0_i32_58
  v69

def k0_dev13 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_51 : BitVec 32 := 6#32
  let v64 : BitVec 32 := Scalar.addi v2 c6_i32_51
  let c8_i32_52 : BitVec 32 := 8#32
  let v65 : BitVec 32 := Scalar.remsi v64 c8_i32_52
  let c1_i32_155 : BitVec 32 := 1#32
  let v149 : BitVec 32 := Scalar.muli v65 c1_i32_155
  let v150 : BitVec 32 := Scalar.addi c0_i32_156 v149
  v150.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_61 : BitVec 32 := 7#32
  let v72 : BitVec 32 := Scalar.addi v2 c7_i32_61
  let c8_i32_62 : BitVec 32 := 8#32
  let v73 : BitVec 1 := Scalar.cmpi .slt v72 c8_i32_62
  let v74 : BitVec 32 := Scalar.extui v73
  let c0_i32_66 : BitVec 32 := 0#32
  let v75 : BitVec 1 := Scalar.cmpi .ne v74 c0_i32_66
  v75

def k0_dev14 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_59 : BitVec 32 := 7#32
  let v70 : BitVec 32 := Scalar.addi v2 c7_i32_59
  let c8_i32_60 : BitVec 32 := 8#32
  let v71 : BitVec 32 := Scalar.remsi v70 c8_i32_60
  let c1_i32_155 : BitVec 32 := 1#32
  let v149 : BitVec 32 := Scalar.muli v71 c1_i32_155
  let v150 : BitVec 32 := Scalar.addi c0_i32_156 v149
  v150.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S_, .bf16⟩
  | .hbm, ⟨2, _⟩ => ⟨S_, .bf16⟩
  | .hbm, ⟨3, _⟩ => ⟨S2048x256, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Cells.lean ====
/-
# The devices, the buffers and the semaphore cells of the prefix-sum kernel

The kernel runs on a line of eight devices. Distances between devices are counted by `k : Fin 7`, the distance
being `k + 1`. A device sends its column totals to each device AFTER it, so the device at distance `k + 1` ahead
receives them in slot `k` of its receive buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Ahead and behind -/

set_option backward.proofsInPublic true in
/-- The device `k + 1` places ahead of `c`, around the end of the line if need be. -/
def ahead (k : Fin 7) (c : Dev nD) : Dev nD := ⟨(c.val + k.val + 1) % 8, Nat.mod_lt _ (by decide)⟩
set_option backward.proofsInPublic true in
/-- The device `k + 1` places behind `c`, around the start of the line if need be. -/
def behind (k : Fin 7) (c : Dev nD) : Dev nD := ⟨(c.val + (7 - k.val)) % 8, Nat.mod_lt _ (by decide)⟩

/-- There is a device `k + 1` places ahead of `c` without going around. -/
abbrev Sends (k : Fin 7) (c : Dev nD) : Prop := c.val + k.val + 1 < 8
/-- There is a device `k + 1` places behind `c` without going around. -/
abbrev Receives (k : Fin 7) (c : Dev nD) : Prop := k.val + 1 ≤ c.val

theorem behind_ahead : ∀ (k : Fin 7) (c : Dev nD), behind k (ahead k c) = c := by decide
theorem ahead_behind : ∀ (k : Fin 7) (c : Dev nD), ahead k (behind k c) = c := by decide
theorem receives_ahead : ∀ (k : Fin 7) (c : Dev nD), Receives k (ahead k c) ↔ Sends k c := by decide
theorem sends_behind : ∀ (k : Fin 7) (c : Dev nD), Sends k (behind k c) ↔ Receives k c := by decide

/-- Moving `k + 1` places ahead is a permutation of the devices. -/
def shift (k : Fin 7) : Dev nD ≃ Dev nD := ⟨ahead k, behind k, behind_ahead k, ahead_behind k⟩

/-! ## The buffers -/

/-- The staged block of `x`, the staged result block, the column totals, the receive buffer. -/
abbrev xM : Memref sig .tc .vmem S256x256 .bf16 := Memref.whole cc0_stg0_0
abbrev oM : Memref sig .tc .vmem S256x256 .bf16 := Memref.whole cc0_stg1_0
abbrev tM : Memref sig .tc .vmem S1x256 .f32 := Memref.whole cc0_scratch0
abbrev rM : Memref sig .tc .vmem S7x1x256 .f32 := Memref.whole cc0_scratch1

theorem inb_slot : ∀ k : Fin 7, ∀ a, (![k.val, 0, 0] : Fin 3 → Nat) a + S1x1x256.size a ≤ S7x1x256.size a := by decide
theorem inb_sem : ∀ k : Fin 7, ∀ a, (![k.val] : Fin 1 → Nat) a + S1.size a ≤ S7.size a := by decide

/-- Slot `k` of the receive buffer, as a row of 256 numbers. -/
abbrev slotM (k : Fin 7) : Memref sig .tc .vmem S1x256 .f32 :=
  (rM.slice (Rect.unit (s := S7x1x256) ![k.val, 0, 0] S1x1x256.size (inb_slot k)) (fun _ => rfl)).squeeze S1x256 squeezes_S1x1x256_S1x256

/-! ## The semaphores -/

/-- The barrier semaphore; the semaphores on which the copy over distance `k + 1` reports that it has left and that it
    has landed. -/
abbrev barS : Sem sig := (SemArray.scalar (sig.barrier 0 rfl) : Sems sig S_).sem
abbrev sendS (k : Fin 7) : DmaSem sig :=
  ((cc0_scratch2.slice (Rect.unit (s := S7) ![k.val] S1.size (inb_sem k))).squeeze S_ squeezes_S1_S_).sem
abbrev recvS (k : Fin 7) : DmaSem sig :=
  ((cc0_scratch3.slice (Rect.unit (s := S7) ![k.val] S1.size (inb_sem k))).squeeze S_ squeezes_S1_S_).sem

theorem sendS_val : ∀ k : Fin 7, (sendS k).val = 2 + k.val := by decide
theorem recvS_val : ∀ k : Fin 7, (recvS k).val = 9 + k.val := by decide

abbrev barCell (c : Dev nD) : GSem nD τ sig := ((c : Thread nD τ), .reg barS)
abbrev sendCell (k : Fin 7) (c : Dev nD) : GSem nD τ sig := ((c : Thread nD τ), .dma (sendS k))
abbrev recvCell (k : Fin 7) (c : Dev nD) : GSem nD τ sig := ((c : Thread nD τ), .dma (recvS k))

/-- The kernel's own semaphores of one device: the seven send and the seven receive semaphores. -/
abbrev OwnIx : Type := Fin 7 ⊕ Fin 7
abbrev osem : OwnIx → SemLoc sig := Sum.elim (fun k => .dma (sendS k)) (fun k => .dma (recvS k))
/-- All fifteen semaphores of one device that the protocol runs on. -/
abbrev CellIx : Type := Unit ⊕ OwnIx
abbrev csem : CellIx → SemLoc sig := Sum.elim (fun _ => .reg barS) osem
abbrev kcell (ck : Dev nD × CellIx) : GSem nD τ sig := ((ck.1 : Thread nD τ), csem ck.2)

theorem csem_injective : Function.Injective csem := by decide

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The bytes one copy moves, as its semaphores count them. -/
abbrev credit : ℕ := (tM : Memref sig .tc .vmem S1x256 .f32).view.dmaCredit
theorem credit_pos : 0 < credit := View.dmaCredit_pos _ (by decide)

end Cert.Scan

end
-- ==== Proof.Slots.lean ====
/-
# The receive buffer as seven slots

Slot `k` is the set of elements whose first coordinate is `k`. The seven slots are disjoint and make up the buffer, and
a copy of a row of 256 numbers into slot `k` puts element `j` of the row at `(k, 0, j)`.
-/
module

public import proofs.«01_k».proof.Proof.Cells
public import Idealize.ShloMosaic.Lib.ValueLayout

@[expose] public section

noncomputable section

namespace Cert.Scan

open Cert.KernelIdeal Cert.KernelIdeal.Gen
open Idealize.ShloMosaic Idealize.ShloMosaic.TcCoe Idealize.ShloMosaic.ValueIdx

/-- The elements of slot `k`. -/
abbrev slotSet (k : Fin 7) : Finset S7x1x256.Idx := (slotM k).view.set

/-- An element lies in slot `k` exactly when its first coordinate is `k`. -/
theorem mem_slotSet (k : Fin 7) (i : S7x1x256.Idx) : i ∈ slotSet k ↔ i 0 = k := by
  have e : slotSet k = (Rect.unit (s := S7x1x256) ![k.val, 0, 0] S1x1x256.size (inb_slot k)).set := by
    exact (View.set_reshape _ _).trans (View.set_slice_whole _ _)
  rw [e, Rect.mem_set_unit]
  constructor
  · intro h
    have h0 := h 0
    have e0 : (![k.val, 0, 0] : Fin 3 → Nat) 0 = k.val := rfl
    have e1 : S1x1x256.size 0 = 1 := rfl
    exact Fin.ext (by rw [e0, e1] at h0; omega)
  · intro h a
    have hk : (i 0).val = k.val := congrArg Fin.val h
    match a with
    | ⟨0, _⟩ => show k.val ≤ (i 0).val ∧ (i 0).val < k.val + 1; omega
    | ⟨1, _⟩ => have := (i 1).isLt; show 0 ≤ (i 1).val ∧ (i 1).val < 0 + 1; exact ⟨Nat.zero_le _, by simpa using this⟩
    | ⟨2, _⟩ => have := (i 2).isLt; show 0 ≤ (i 2).val ∧ (i 2).val < 0 + 256; exact ⟨Nat.zero_le _, by simpa using this⟩

theorem slotSet_disjoint : ∀ k ∈ (Finset.univ : Finset (Fin 7)), ∀ k' ∈ (Finset.univ : Finset (Fin 7)), k ≠ k' →
    Disjoint (slotSet k) (slotSet k') := fun k _ k' _ hk =>
  Finset.disjoint_left.mpr fun i h h' => hk (((mem_slotSet k i).mp h).symm.trans ((mem_slotSet k' i).mp h'))

theorem slotSet_cover : (Finset.univ : Finset (Fin 7)).biUnion slotSet = Finset.univ :=
  Finset.eq_univ_iff_forall.mpr fun i => Finset.mem_biUnion.mpr ⟨i 0, Finset.mem_univ _, (mem_slotSet _ i).mpr rfl⟩

variable {F : FTy → Type}

/-- Where slot `k`'s row lies in the buffer: element `(0, j)` of the row is element `(k, 0, j)`. -/
theorem slot_emb (k : Fin 7) (j : Fin 256) : ((slotM k).view.emb (ix2 (0 : Fin 1) j) 2 : Fin 256) = j := by
  have e : Shape.reshapeEquiv squeezes_S1x1x256_S1x256.numel_eq (ix2 (0 : Fin 1) j) = ix3 (⟨0, Nat.one_pos⟩ : Fin 1) (0 : Fin 1) j :=
    reshapeEquiv_ix2_1ab _ _ _
  show (Rect.unit (s := S7x1x256) ![k.val, 0, 0] S1x1x256.size (inb_slot k)).emb
    (Shape.reshapeEquiv squeezes_S1x1x256_S1x256.numel_eq (ix2 (0 : Fin 1) j)) 2 = j
  rw [e]
  apply Fin.ext
  show 0 + 1 * j.val = j.val
  omega

/-- A position of a row is `(0, j)` for some `j`. -/
theorem row_idx (x : S1x256.Idx) : ∃ j : Fin 256, x = ix2 (0 : Fin 1) j :=
  ⟨x 1, funext fun a => match a with
    | ⟨0, _⟩ => Fin.ext (by have : (x 0).val < 1 := (x 0).isLt; show (x 0).val = 0; omega)
    | ⟨1, _⟩ => rfl⟩

/-- The row of 256 numbers `w`, copied into slot `k` over the contents `f`: at `(k, 0, j)` there is `w` at `(0, j)`. -/
theorem write_slot (k : Fin 7) (f : (cc0_scratch1 : Ref sig .tc).ty.Contents (Elt F)) (w : S1x256.Idx → Elt F .f32)
    (i : S7x1x256.Idx) (hi : i ∈ slotSet k) :
    (slotM k).view.write (Elt F) f w Finset.univ i = w (ix2 (0 : Fin 1) (i 2)) := by
  obtain ⟨x, -, hx⟩ := Finset.mem_map.mp hi
  obtain ⟨j, rfl⟩ := row_idx x
  have h2 : (i 2 : Fin 256) = j := by rw [← hx]; exact slot_emb k j
  have e : w (ix2 (0 : Fin 1) (i 2)) = w (ix2 (0 : Fin 1) j) := congrArg (fun t : Fin 256 => w (ix2 (0 : Fin 1) t)) h2
  rw [e, ← hx]
  exact View.write_emb_of_mem _ _ (Finset.mem_univ _)

end Cert.Scan

end
-- ==== Proof.Schedule.lean ====
/-
# Who signals whom, how much, and what each arrival hands over

One round per semaphore, three kinds of semaphore on each device `c`:

* the BARRIER of `c` takes one unit from each device after it; the device `k + 1` places ahead hands over its slot `k`,
  still holding anything, for `c` to write into;
* the RECEIVE semaphore `k` of `c` takes one copy's bytes from the device `k + 1` places behind, if there is one; the
  landing hands over slot `k` of `c` holding that device's column totals;
* the SEND semaphore `k` of `c` takes the same bytes when `c`'s copy to the device `k + 1` places ahead has left; it
  hands back the share of `c`'s totals buffer that the copy was reading.
-/
module

public import proofs.«01_k».proof.Proof.Slots

@[expose] public section

noncomputable section

namespace Cert.Scan

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources the proof counts in -/

/-- Duties are named by the distance they bridge. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: the memory given, every semaphore at zero, the generators' registers given. -/
def s₀ : MemSt nD τ sig (Elt F) := ⟨m, fun _ => 0, ρ⟩

/-! ## The contents -/

/-- Device `c`'s block of `x`, as staged for the body. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s column totals. -/
def tot (c : Dev nD) : (cc0_scratch0 : Ref sig .tc).ty.Contents (Elt F) := k0_pay2 (k0_pay1 (xstg m ρ c))

/-- What the receive buffer of `c` would hold after a copy into every slot: in slot `k` the totals of the device `k + 1`
    places behind. -/
def landed (c : Dev nD) : (cc0_scratch1 : Ref sig .tc).ty.Contents (Elt F) := fun i =>
  tot m ρ (behind (i 0) c) (ix2 (0 : Fin 1) (i 2))

/-- The totals of the device `k + 1` places behind `c`, copied into slot `k` of `c`, leave there what `landed` says. -/
theorem write_landed (k : Fin 7) (c c' : Dev nD) (hc : c' = behind k c) (f : (cc0_scratch1 : Ref sig .tc).ty.Contents (Elt F))
    (i : S7x1x256.Idx) (hi : i ∈ slotSet k) :
    (slotM k).view.write (Elt F) f ((tM : Memref sig .tc .vmem S1x256 .f32).view.read (Elt F) (tot m ρ c')) Finset.univ i = landed m ρ c i := by
  subst hc
  rw [write_slot k f _ i hi]
  have h0 : i 0 = k := (mem_slotSet k i).mp hi
  show tot m ρ (behind k c) (ix2 (0 : Fin 1) (i 2)) = tot m ρ (behind (i 0) c) (ix2 (0 : Fin 1) (i 2))
  rw [h0]

/-! ## Pieces of memory -/

/-- Device `c` holds its slot `k`, with contents `f` there. -/
def slotPts (k : Fin 7) (c : Dev nD) (f : (cc0_scratch1 : Ref sig .tc).ty.Contents (Elt F)) : sProp 𝕄 :=
  (slotM k).view.loc (c : Thread nD τ) ↦[(slotM k).view.set]{fullShare} f

/-- The share `q` of device `c`'s totals buffer, holding the totals. -/
def totPts (q : PosShare TreeShare) (c : Dev nD) : sProp 𝕄 :=
  (tM : Memref sig .tc .vmem S1x256 .f32).view.loc (c : Thread nD τ) ↦[(tM : Memref sig .tc .vmem S1x256 .f32).view.set]{q} tot m ρ c

/-- What is left of the whole share after `n` halves have been cut off it, -/
def restShare : ℕ → PosShare TreeShare
  | 0 => fullShare
  | n + 1 => (restShare n).right
/-- and the piece cut off after `n` others: the copy over distance `n + 1` reads the totals under it. -/
def share (n : ℕ) : PosShare TreeShare := (restShare n).left

omit [FloatOps F] in
instance slotPts_storable (k : Fin 7) (c : Dev nD) (f) : BI.Storable (upEmb : UEmb _ 𝕄) (slotPts (F := F) k c f) := by
  unfold slotPts; infer_instance
instance totPts_storable (q : PosShare TreeShare) (c : Dev nD) : BI.Storable (upEmb : UEmb _ 𝕄) (totPts (F := F) m ρ q c) := by
  unfold totPts; infer_instance

omit [FloatOps F] in
/-- Only what is inside the slot matters. -/
theorem slotPts_congr (k : Fin 7) (c : Dev nD) {f g : (cc0_scratch1 : Ref sig .tc).ty.Contents (Elt F)}
    (h : ∀ i : S7x1x256.Idx, i ∈ slotSet k → f i = g i) : (slotPts k c f : sProp 𝕄) = slotPts k c g := by
  unfold slotPts; exact pointsTo_congr h

omit [FloatOps F] in
/-- The receive buffer is its seven slots. -/
theorem slots_eq (c : Dev nD) (f : (cc0_scratch1 : Ref sig .tc).ty.Contents (Elt F)) :
    (((c : Thread nD τ).loc cc0_scratch1) ↦{fullShare} f : sProp 𝕄) = bigSep Finset.univ fun k : Fin 7 => slotPts k c f := by
  have h := pointsTo_biUnion (nD := nD) (τ := τ) (sig := sig) (Ix := Unit) (Val := Elt F) (Name := ℕ) (U := UU) (Lvl := ℕ)
    (ℓ := (c : Thread nD τ).loc cc0_scratch1) (q := fullShare) (f := f) Finset.univ slotSet slotSet_disjoint
  rw [slotSet_cover] at h
  exact h

/-- The share left after `n` cuts is the next piece and the share left after `n + 1`. -/
theorem totPts_cut (n : ℕ) (c : Dev nD) :
    (totPts m ρ (restShare n) c : sProp 𝕄) ⊣⊢ iprop(totPts m ρ (share n) c ∗ totPts m ρ (restShare (n + 1)) c) := by
  unfold totPts
  exact pointsTo_share (PosShare.mem_left_op_right _)

theorem totPts_full (c : Dev nD) :
    (((c : Thread nD τ).loc cc0_scratch0) ↦{fullShare} tot m ρ c : sProp 𝕄) = totPts m ρ (restShare 0) c := by
  unfold totPts; rw [View.set_whole]; rfl

/-! ## The schedule -/

/-- What the device `k + 1` places ahead hands `c` with its signal: its slot `k`, holding anything. -/
def barPay (k : Fin 7) (c : Dev nD) : sProp 𝕄 := iprop(∃ f, slotPts (F := F) k (ahead k c) f)

/-- The duties on one semaphore of device `c`. -/
def dutiesAt (c : Dev nD) : SemLoc sig → Finset (Fin 7)
  | .reg _ => Finset.univ.filter fun k => Sends k c
  | .dma q => Finset.univ.filter fun k => (q = sendS k ∧ Sends k c) ∨ (q = recvS k ∧ Receives k c)

/-- What a duty on one semaphore of device `c` hands over. -/
def payAt (c : Dev nD) (k : Fin 7) : SemLoc sig → sProp 𝕄
  | .reg _ => barPay k c
  | .dma q => if q = sendS k then totPts m ρ (share k.val) c else slotPts k c (landed m ρ c)

/-- The protocol: round 0 of every semaphore of a device, and nothing after it. -/
def sched : Rounds.Schedule (GSem nD τ sig) (Fin 7) 𝕄 where
  duties g r := if r = 0 ∧ g.1.2 = .tc then dutiesAt g.1.1 g.2 else ∅
  unitless _ := False
  amount g _ _ := match g.2 with
    | .reg _ => 1
    | .dma _ => credit
  payload g _ k := payAt m ρ g.1.1 k g.2
  amount_pos g _ _ _ := by
    cases g.2 with
    | reg _ => exact Nat.one_pos
    | dma _ => exact credit_pos

instance sched_storable (g : GSem nD τ sig) (r : ℕ) (k : Fin 7) :
    BI.Storable (upEmb : UEmb _ 𝕄) ((sched (F := F) m ρ).payload g r k) := by
  show BI.Storable upEmb (payAt m ρ g.1.1 k g.2)
  unfold payAt barPay
  split
  · infer_instance
  · split <;> infer_instance

/-! ## The schedule read at each kind of semaphore -/

theorem sendS_inj {k k' : Fin 7} (h : sendS k = sendS k') : k = k' := by revert k k'; decide
theorem recvS_inj {k k' : Fin 7} (h : recvS k = recvS k') : k = k' := by revert k k'; decide
theorem send_ne_recv (k k' : Fin 7) : sendS k ≠ recvS k' := by revert k k'; decide

theorem duties_zero (c : Dev nD) (sm : SemLoc sig) : (sched (F := F) m ρ).duties ((c : Thread nD τ), sm) 0 = dutiesAt c sm := by
  dsimp only [sched]; exact if_pos ⟨rfl, rfl⟩

theorem duties_bar (c : Dev nD) : (sched (F := F) m ρ).duties (barCell c) 0 = Finset.univ.filter fun k => Sends k c := duties_zero m ρ c _

theorem duties_send (k : Fin 7) (c : Dev nD) : (sched (F := F) m ρ).duties (sendCell k c) 0 = if Sends k c then {k} else ∅ := by
  refine (duties_zero m ρ c _).trans ?_
  ext k'
  simp only [dutiesAt, Finset.mem_filter, Finset.mem_univ, true_and]
  constructor
  · rintro (⟨h, hs⟩ | ⟨h, -⟩)
    · obtain rfl := sendS_inj h
      rw [if_pos hs]; exact Finset.mem_singleton_self _
    · exact absurd h (send_ne_recv _ _)
  · intro h
    by_cases hs : Sends k c
    · rw [if_pos hs] at h; obtain rfl := Finset.mem_singleton.mp h; exact .inl ⟨rfl, hs⟩
    · rw [if_neg hs] at h; exact absurd h (Finset.notMem_empty _)

theorem duties_recv (k : Fin 7) (c : Dev nD) : (sched (F := F) m ρ).duties (recvCell k c) 0 = if Receives k c then {k} else ∅ := by
  refine (duties_zero m ρ c _).trans ?_
  ext k'
  simp only [dutiesAt, Finset.mem_filter, Finset.mem_univ, true_and]
  constructor
  · rintro (⟨h, -⟩ | ⟨h, hs⟩)
    · exact absurd h.symm (send_ne_recv _ _)
    · obtain rfl := recvS_inj h
      rw [if_pos hs]; exact Finset.mem_singleton_self _
  · intro h
    by_cases hs : Receives k c
    · rw [if_pos hs] at h; obtain rfl := Finset.mem_singleton.mp h; exact .inr ⟨rfl, hs⟩
    · rw [if_neg hs] at h; exact absurd h (Finset.notMem_empty _)

theorem duties_later (g : GSem nD τ sig) : ∀ r, 1 ≤ r → (sched (F := F) m ρ).duties g r = ∅ :=
  fun r hr => if_neg fun h => by omega

/-- A send semaphore over a distance that leaves the line has no duty in any round, -/
theorem duties_send_none (k : Fin 7) (c : Dev nD) (h : ¬ Sends k c) : ∀ r, 0 ≤ r → (sched (F := F) m ρ).duties (sendCell k c) r = ∅ := fun r _ => by
  rcases Nat.eq_zero_or_pos r with rfl | hr
  · rw [duties_send, if_neg h]
  · exact duties_later m ρ _ r hr
/-- and neither has such a receive semaphore. -/
theorem duties_recv_none (k : Fin 7) (c : Dev nD) (h : ¬ Receives k c) : ∀ r, 0 ≤ r → (sched (F := F) m ρ).duties (recvCell k c) r = ∅ := fun r _ => by
  rcases Nat.eq_zero_or_pos r with rfl | hr
  · rw [duties_recv, if_neg h]
  · exact duties_later m ρ _ r hr

theorem card_sends : ∀ c : Dev nD, (Finset.univ.filter fun k : Fin 7 => Sends k c).card = 7 - c.val := by decide

/-- The barrier's round is worth one unit for each device after `c`; -/
theorem expect_bar (c : Dev nD) : (sched (F := F) m ρ).expect (barCell c) 0 = 7 - c.val := by
  unfold Schedule.expect Schedule.amountOf
  rw [duties_bar, ← card_sends, Finset.card_eq_sum_ones]
  rfl
/-- a send semaphore's round one copy's bytes, -/
theorem expect_send (k : Fin 7) (c : Dev nD) (h : Sends k c) : (sched (F := F) m ρ).expect (sendCell k c) 0 = credit := by
  unfold Schedule.expect Schedule.amountOf; rw [duties_send, if_pos h, Finset.sum_singleton]; rfl
/-- a receive semaphore's round the same. -/
theorem expect_recv (k : Fin 7) (c : Dev nD) (h : Receives k c) : (sched (F := F) m ρ).expect (recvCell k c) 0 = credit := by
  unfold Schedule.expect Schedule.amountOf; rw [duties_recv, if_pos h, Finset.sum_singleton]; rfl

theorem payload_bar (k : Fin 7) (c : Dev nD) : (sched (F := F) m ρ).payload (barCell c) 0 k = barPay k c := rfl
theorem payload_send (k : Fin 7) (c : Dev nD) : (sched (F := F) m ρ).payload (sendCell k c) 0 k = totPts m ρ (share k.val) c := if_pos rfl
theorem payload_recv (k : Fin 7) (c : Dev nD) : (sched (F := F) m ρ).payload (recvCell k c) 0 k = slotPts k c (landed m ρ c) :=
  if_neg fun h => send_ne_recv k k h.symm

/-- All that the barrier's round hands over: for each device after `c`, that device's slot. -/
theorem rest_bar (c : Dev nD) :
    bigSep ((sched (F := F) m ρ).duties (barCell c) 0 \ ∅) (fun k => (sched (F := F) m ρ).payload (barCell c) 0 k)
      = bigSep Finset.univ fun k : Fin 7 => if Sends k c then barPay (F := F) k c else iprop(emp) := by
  rw [Finset.sdiff_empty, duties_bar]
  exact bigSep_filter _ _ _
theorem rest_send (k : Fin 7) (c : Dev nD) (h : Sends k c) :
    bigSep ((sched (F := F) m ρ).duties (sendCell k c) 0 \ ∅) (fun j => (sched (F := F) m ρ).payload (sendCell k c) 0 j) = totPts m ρ (share k.val) c := by
  rw [Finset.sdiff_empty, duties_send, if_pos h, bigSep_singleton, payload_send]
theorem rest_recv (k : Fin 7) (c : Dev nD) (h : Receives k c) :
    bigSep ((sched (F := F) m ρ).duties (recvCell k c) 0 \ ∅) (fun j => (sched (F := F) m ρ).payload (recvCell k c) 0 j) = slotPts k c (landed m ρ c) := by
  rw [Finset.sdiff_empty, duties_recv, if_pos h, bigSep_singleton, payload_recv]

end Cert.Scan

end
-- ==== Proof.Debts.lean ====
/-
# What each device owes, and in what order semaphores may be waited on

At launch device `c` owes one copy's bytes to a receive semaphore of each device after it and one unit to the barrier of
each device before it. Barriers rank below receive semaphores: while a device waits on its barrier all it still owes are
its copies, and by the time it waits for a copy it owes nothing.
-/
module

public import proofs.«01_k».proof.Proof.Schedule

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The copy over distance `k + 1`, owed if there is a device that far ahead; -/
def dueSend (c : Dev nD) (k : Fin 7) : CellTallies nD τ sig Unit := if Sends k c then tallyAt (recvCell k (ahead k c)) () credit else 0
/-- the barrier signal over distance `k + 1`, owed if there is a device that far behind. -/
def dueSig (c : Dev nD) (k : Fin 7) : CellTallies nD τ sig Unit := if Receives k c then tallyAt (barCell (behind k c)) () 1 else 0

/-- The last `n` of seven debts, the first of them outermost. -/
def lastOf (f : Fin 7 → CellTallies nD τ sig Unit) : ℕ → CellTallies nD τ sig Unit
  | 0 => 0
  | n + 1 => lastOf f n + f (Fin.ofNat 7 (6 - n))

theorem lastOf_seven (f : Fin 7 → CellTallies nD τ sig Unit) : lastOf f 7 = ∑ k, f k := by
  rw [Fin.sum_univ_seven]
  show 0 + f 6 + f 5 + f 4 + f 3 + f 2 + f 1 + f 0 = _
  rw [zero_add]
  ac_rfl

theorem lastOf_pos {f : Fin 7 → CellTallies nD τ sig Unit} {g : GSem nD τ sig} {u : Unit} :
    ∀ n, 0 < lastOf f n g u → ∃ k, 0 < f k g u
  | 0, h => absurd h (Nat.lt_irrefl 0)
  | n + 1, h => by
    have h' : 0 < lastOf f n g u + f (Fin.ofNat 7 (6 - n)) g u := h
    by_cases hn : 0 < lastOf f n g u
    · exact lastOf_pos n hn
    · exact ⟨Fin.ofNat 7 (6 - n), by rwa [Nat.eq_zero_of_not_pos hn, Nat.zero_add] at h'⟩

/-- Everything device `c` owes at launch. -/
def O₀ (c : Dev nD) : CellTallies nD τ sig Unit := lastOf (dueSend c) 7 + lastOf (dueSig c) 7

theorem dueSend_pos {c : Dev nD} {k : Fin 7} {g : GSem nD τ sig} {u : Unit} (h : 0 < dueSend c k g u) : g = recvCell k (ahead k c) := by
  unfold dueSend at h
  split at h
  · rw [tallyAt_apply] at h
    by_contra hn
    rw [if_neg fun h' => hn h'.1] at h
    exact Nat.lt_irrefl 0 h
  · exact absurd h (Nat.lt_irrefl 0)
theorem dueSig_pos {c : Dev nD} {k : Fin 7} {g : GSem nD τ sig} {u : Unit} (h : 0 < dueSig c k g u) : g = barCell (behind k c) := by
  unfold dueSig at h
  split at h
  · rw [tallyAt_apply] at h
    by_contra hn
    rw [if_neg fun h' => hn h'.1] at h
    exact Nat.lt_irrefl 0 h
  · exact absurd h (Nat.lt_irrefl 0)

theorem O₀_pos {c : Dev nD} {g : GSem nD τ sig} {u : Unit} (h : 0 < O₀ c g u) :
    (∃ k c', g = recvCell k c') ∨ ∃ c', g = barCell c' := by
  have h' : 0 < lastOf (dueSend c) 7 g u + lastOf (dueSig c) 7 g u := h
  by_cases hs : 0 < lastOf (dueSend c) 7 g u
  · obtain ⟨k, hk⟩ := lastOf_pos 7 hs
    exact .inl ⟨k, _, dueSend_pos hk⟩
  · obtain ⟨k, hk⟩ := lastOf_pos 7 (show 0 < lastOf (dueSig c) 7 g u by omega)
    exact .inr ⟨_, dueSig_pos hk⟩

/-! ## Ranks -/

def L (g : GSem nD τ sig) : Finset Unit := if g.1.2 = .tc then {()} else ∅
/-- Barriers rank 1, receive semaphores 2, all others 0. -/
def lv (g : GSem nD τ sig) (_ : Unit) : ℕ := match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 7) (c : Dev nD) : lv (recvCell k c) () = 2 := if_pos (by rw [recvS_val]; omega)
theorem lv_bar (c : Dev nD) : lv (barCell c) () = 1 := rfl

omit [FloatOps F] in
/-- A semaphore that is neither a barrier nor a receive semaphore may be waited on while everything, or nothing, is owed. -/
theorem mayWait_low (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, c', rfl⟩ | ⟨c', rfl⟩ <;> exact Finset.mem_singleton_self _)
      (fun p hp => by
        rw [Finset.mem_singleton.mp hp]
        exact le_of_eq (if_neg (by omega)))
      (fun g u hg => by
        rcases O₀_pos hg with ⟨k, c', rfl⟩ | ⟨c', rfl⟩
        · rw [lv_recv]; decide
        · rw [lv_bar]; decide)
  · rw [MayWait_zero]; iintro -; iempintro

omit [FloatOps F] in
/-- The barrier may be waited on while only the copies are owed. -/
theorem mayWait_bar (c : Dev nD) :
    (levAts L lv : sProp 𝕄) ⊢ MayWait (c : Thread nD τ) (.reg barS) () (lastOf (dueSend c) 7) :=
  MayOwe.of_cut (L := L) (lev := lv) 1 (fun p hp => by rw [Finset.mem_singleton.mp hp, L_tc]; exact Finset.mem_singleton_self _)
    (fun g u hg => by
      obtain ⟨k, hk⟩ := lastOf_pos 7 hg
      rw [dueSend_pos hk]; exact Finset.mem_singleton_self _)
    (fun p hp => by rw [Finset.mem_singleton.mp hp]; exact le_of_eq (lv_bar c))
    (fun g u hg => by
      obtain ⟨k, hk⟩ := lastOf_pos 7 hg
      rw [dueSend_pos hk, lv_recv]; decide)

end Cert.Scan

end
-- ==== Proof.Steps.lean ====
/-
# The four kinds of conditional step

The body repeats four steps for each distance, each under a condition on the device's place in the line: signal a
barrier, start a copy, wait for a copy to land, wait for a copy to have left. Each is proved here once, for every
distance and every device, together with what is true when the condition fails and nothing is done.
-/
module

public import proofs.«01_k».proof.Proof.Debts

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev wpc (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## What everybody knows -/

/-- Every semaphore of the protocol is under the schedule, and its round 0 has begun. -/
def records (K : Dev nD × CellIx → ℕ) : sProp 𝕄 :=
  iprop((bigSep Finset.univ fun ck : Dev nD × CellIx => cellInv ER (sched m ρ) (K ck) (kcell ck))
    ∗ bigSep Finset.univ fun ck : Dev nD × CellIx => reached ER (kcell ck) 0)

instance records_persistent (K : Dev nD × CellIx → ℕ) : BI.Persistent (records m ρ K) := by unfold records; infer_instance

variable (K : Dev nD × CellIx → ℕ)

theorem known_inv (ck : Dev nD × CellIx) : records m ρ K ⊢ cellInv ER (sched m ρ) (K ck) (kcell ck) := by
  have h : (bigSep Finset.univ fun ck : Dev nD × CellIx => (cellInv ER (sched m ρ) (K ck) (kcell ck) : sProp 𝕄)) ⊢ cellInv ER (sched m ρ) (K ck) (kcell ck) :=
    bigSep_elim (Finset.mem_univ ck)
  unfold records
  iintro ⟨H, -⟩
  iapply h; iexact H
theorem known_reached (ck : Dev nD × CellIx) : records m ρ K ⊢ reached ER (kcell ck) 0 := by
  have h : (bigSep Finset.univ fun ck : Dev nD × CellIx => (reached ER (kcell ck) 0 : sProp 𝕄)) ⊢ reached ER (kcell ck) 0 :=
    bigSep_elim (Finset.mem_univ ck)
  unfold records
  iintro ⟨-, H⟩
  iapply h; iexact H

theorem inv_bar (c : Dev nD) : records m ρ K ⊢ cellInv ER (sched m ρ) (K (c, .inl ())) (barCell c) := known_inv m ρ K (c, .inl ())
theorem inv_send (k : Fin 7) (c : Dev nD) : records m ρ K ⊢ cellInv ER (sched m ρ) (K (c, .inr (.inl k))) (sendCell k c) :=
  known_inv m ρ K (c, .inr (.inl k))
theorem inv_recv (k : Fin 7) (c : Dev nD) : records m ρ K ⊢ cellInv ER (sched m ρ) (K (c, .inr (.inr k))) (recvCell k c) :=
  known_inv m ρ K (c, .inr (.inr k))
theorem reached_bar (c : Dev nD) : records m ρ K ⊢ reached ER (barCell c) 0 := known_reached m ρ K (c, .inl ())
theorem reached_send (k : Fin 7) (c : Dev nD) : records m ρ K ⊢ reached ER (sendCell k c) 0 := known_reached m ρ K (c, .inr (.inl k))
theorem reached_recv (k : Fin 7) (c : Dev nD) : records m ρ K ⊢ reached ER (recvCell k c) 0 := known_reached m ρ K (c, .inr (.inr k))

/-- Device `c` owes `O`, having waited on whatever it has. -/
def owing (c : Dev nD) (O : CellTallies nD τ sig Unit) : sProp 𝕄 := iprop(∃ W, owes (c : Thread nD τ) O W)

/-! ## Signalling a barrier -/

/-- What is left of slot `k` once `c` has signalled: nothing if it gave the slot away, the slot if not. -/
def kept (k : Fin 7) (c : Dev nD) (f : (cc0_scratch1 : Ref sig .tc).ty.Contents (Elt F)) : sProp 𝕄 :=
  if Receives k c then iprop(emp) else slotPts k c f

/-- Signalling the device `k + 1` places behind, if there is one, gives it slot `k` to write into. -/
theorem step_signal (k : Fin 7) (c : Dev nD) (f : (cc0_scratch1 : Ref sig .tc).ty.Contents (Elt F)) (O : CellTallies nD τ sig Unit)
    {b : BitVec 1} (hb : b = 1#1 ↔ Receives k c) {d : b = 1#1 → Dev nD} (hd : ∀ h, d h = behind k c)
    {α : Type} {P : Prog (TpuEff nD τ sig (Elt F) Λ₀ .tc) α} {Q : α → sProp 𝕄} :
    iprop(records m ρ K ∗ dutyTok ER (barCell (behind k c)) 0 k ∗ slotPts k c f ∗ owing c (O + dueSig c k))
      ⊢ iprop(((kept k c f ∗ owing c O) -∗ wpc c P Q)
          -∗ wpc c (if h : b = 1#1 then (semSignalWord (d h) barS 1#32).bind fun _ => P else P) Q) := by
  unfold kept dueSig
  by_cases hr : Receives k c
  · have hb1 := hb.mpr hr
    rw [dif_pos hb1, if_pos hr, if_pos hr, hd hb1]
    unfold owing
    iintro ⟨#HR, Htok, Hslot, ⟨%W, HO⟩⟩ Hk
    iapply (Rounds.wp_signal 𝒱₀ ER (sched m ρ) (c : Thread nD τ) none (dst := (behind k c : Thread nD τ)) (κ := K (behind k c, .inl ()))
        (d := k) (r := 0) (by rw [duties_bar]; exact Finset.mem_filter.mpr ⟨Finset.mem_univ _, (sends_behind k c).mpr hr⟩) rfl () O rfl)
      $$ [HO Htok Hslot]
    · isplitr; · iapply (inv_bar m ρ K (behind k c)); iexact HR
      isplitl [HO]; · iexact HO
      isplitl [Htok]; · iexact Htok
      isplitl [Hslot]
      · rw [payload_bar]; unfold barPay; rw [ahead_behind]
        iexists f; iexact Hslot
      · iapply (reached_bar m ρ K (behind k c)); iexact HR
    iintro HO
    iapply Hk
    isplitr; · iempintro
    iexists W; iexact HO
  · have hb1 : ¬ b = 1#1 := fun h => hr (hb.mp h)
    rw [dif_neg hb1, if_neg hr, if_neg hr, add_zero]
    iintro ⟨-, -, Hslot, HO⟩ Hk
    iapply Hk
    isplitl [Hslot] <;> iassumption

/-! ## Starting a copy -/

/-- What `c` has after the point where it may start a copy over distance `k + 1`: the right to wait for it to leave, or
    still the share of the totals it would have read. -/
def sent (k : Fin 7) (c : Dev nD) : sProp 𝕄 :=
  if Sends k c then cred (tallyAt (sendCell k c) () credit) else totPts m ρ (share k.val) c

/-- The copy itself, to a device `n` that is `k + 1` places ahead: it may be started with the totals in hand, slot `k` of
    `n`, and the two duties, and it settles the debt to `n`'s receive semaphore. -/
theorem wp_copy (k : Fin 7) (c n : Dev nD) (hn : n = ahead k c) (hs : Sends k c) (O : CellTallies nD τ sig Unit)
    {hsc : (slotM k : Memref sig (Dev.tc n : Thread nD τ).2.kind .vmem S1x256 .f32).view.ref.isScScratch = false}
    {hsrc : (tM : Memref sig .tc .vmem S1x256 .f32).view.WordExact} {hdst : (slotM k).view.WordExact}
    {hsem : DmaTarget.Typed .vmem (.dma (recvS k)) (.remote (Dev.tc n : Thread nD τ) (slotM k) (.dma (sendS k)) hsc)}
    {α : Type} {P : Prog (TpuEff nD τ sig (Elt F) Λ₀ .tc) α} {Q : α → sProp 𝕄}
    (f : (cc0_scratch1 : Ref sig .tc).ty.Contents (Elt F)) (W : Waits sig Unit) :
    iprop(cellInv ER (sched m ρ) (K (c, .inr (.inl k))) (sendCell k c) ∗ cellInv ER (sched m ρ) (K (ahead k c, .inr (.inr k))) (recvCell k (ahead k c))
        ∗ totPts m ρ (share k.val) c ∗ slotPts k (ahead k c) f
        ∗ owes (c : Thread nD τ) (O + tallyAt (recvCell k (ahead k c)) () credit) W
        ∗ dutyTok ER (sendCell k c) 0 k ∗ reached ER (sendCell k c) 0
        ∗ dutyTok ER (recvCell k (ahead k c)) 0 k ∗ reached ER (recvCell k (ahead k c)) 0)
      ⊢ iprop(((cred (tallyAt (sendCell k c) () credit) ∗ owes (c : Thread nD τ) O W) -∗ wpc c P Q)
          -∗ wpc c ((Prog.lift (.enqueueDma tM (.remote (Dev.tc n : Thread nD τ) (slotM k) (.dma (sendS k)) hsc) (.dma (recvS k)) hsrc hdst hsem)).bind fun _ => P) Q) := by
  subst hn
  unfold totPts slotPts
  refine Rounds.wp_send_pointsTo 𝒱₀ ER (sched m ρ) (c : Thread nD τ) none (κ₁ := K (c, .inr (.inl k))) (κ₂ := K (ahead k c, .inr (.inr k)))
    (r₁ := 0) (r₂ := 0) (d₁ := k) (d₂ := k) (fd := f) (k := fun _ => P) (src := tM) (dst := slotM k) (c' := (ahead k c : Thread nD τ)) (sS := .dma (sendS k)) (sem := .dma (recvS k))
    ?_ ?_ () () credit ?_ ?_ ?_ O ?_ (W := W) ?_ ?_ (hr := ?_)
  · rw [duties_send, if_pos hs]; exact Finset.mem_singleton_self _
  · rw [duties_recv, if_pos ((receives_ahead k c).mpr hs)]; exact Finset.mem_singleton_self _
  · rfl
  · rfl
  · rfl
  · rfl
  · rw [payload_send]; exact BI.Entails.refl _
  · have h : (slotPts k (ahead k c) ((slotM k).view.write (Elt F) f ((tM : Memref sig .tc .vmem S1x256 .f32).view.read (Elt F) (tot m ρ c)) Finset.univ) : sProp 𝕄)
        = (sched m ρ).payload (recvCell k (ahead k c)) 0 k := by
      rw [payload_recv]
      exact slotPts_congr k (ahead k c) fun i hi => write_landed m ρ k (ahead k c) c (behind_ahead k c).symm f i hi
    unfold slotPts at h
    exact Entails.of_eq h
  · routes

/-- The program `X` starts the copy over distance `k + 1` from device `c`, and then is `P`. -/
def Copies (k : Fin 7) (c : Dev nD) {α : Type} (X P : Prog (TpuEff nD τ sig (Elt F) Λ₀ .tc) α) : Prop :=
  ∃ (n : Dev nD) (_ : n = ahead k c)
    (hsc : (slotM k : Memref sig (Dev.tc n : Thread nD τ).2.kind .vmem S1x256 .f32).view.ref.isScScratch = false)
    (hsrc : (tM : Memref sig .tc .vmem S1x256 .f32).view.WordExact) (hdst : (slotM k).view.WordExact)
    (hsem : DmaTarget.Typed .vmem (.dma (recvS k)) (.remote (Dev.tc n : Thread nD τ) (slotM k) (.dma (sendS k)) hsc)),
    X = (Prog.lift (.enqueueDma tM (.remote (Dev.tc n : Thread nD τ) (slotM k) (.dma (sendS k)) hsc) (.dma (recvS k)) hsrc hdst hsem)).bind fun _ => P

/-- A copy to a device, into a slot and on semaphores that are the ones for distance `k + 1`. -/
theorem copies (k : Fin 7) (c : Dev nD) {n : Dev nD} (hn : n = ahead k c)
    {M : Memref sig .tc .vmem S1x256 .f32} (hM : M = slotM k) {sS sR : DmaSem sig} (hS : sS = sendS k) (hR : sR = recvS k)
    {hsc : (M : Memref sig (Dev.tc n : Thread nD τ).2.kind .vmem S1x256 .f32).view.ref.isScScratch = false}
    {hsrc : (tM : Memref sig .tc .vmem S1x256 .f32).view.WordExact} {hdst : M.view.WordExact}
    {hsem : DmaTarget.Typed .vmem (.dma sR) (.remote (Dev.tc n : Thread nD τ) M (.dma sS) hsc)}
    {α : Type} {P : Prog (TpuEff nD τ sig (Elt F) Λ₀ .tc) α} :
    Copies k c ((Prog.lift (.enqueueDma tM (.remote (Dev.tc n : Thread nD τ) M (.dma sS) hsc) (.dma sR) hsrc hdst hsem)).bind fun _ => P) P := by
  subst hM hS hR
  exact ⟨n, hn, hsc, hsrc, hdst, hsem, rfl⟩

/-- Starting the copy of the totals into slot `k` of the device `k + 1` places ahead, if there is one. -/
theorem step_send (k : Fin 7) (c : Dev nD) (O : CellTallies nD τ sig Unit)
    {b : BitVec 1} (hb : b = 1#1 ↔ Sends k c)
    {α : Type} {X : b = 1#1 → Prog (TpuEff nD τ sig (Elt F) Λ₀ .tc) α} {P : Prog (TpuEff nD τ sig (Elt F) Λ₀ .tc) α} {Q : α → sProp 𝕄}
    (hX : ∀ h, Copies k c (X h) P) :
    iprop(records m ρ K ∗ totPts m ρ (share k.val) c ∗ (if Sends k c then barPay (F := F) k c else iprop(emp))
        ∗ dutyTok ER (sendCell k c) 0 k ∗ dutyTok ER (recvCell k (ahead k c)) 0 k ∗ owing c (O + dueSend c k))
      ⊢ iprop(((sent m ρ k c ∗ owing c O) -∗ wpc c P Q) -∗ wpc c (if h : b = 1#1 then X h else P) Q) := by
  unfold sent dueSend
  by_cases hs : Sends k c
  · have hb1 := hb.mpr hs
    obtain ⟨n, hn, hsc, hsrc, hdst, hsem, hx⟩ := hX hb1
    rw [dif_pos hb1, if_pos hs, if_pos hs, if_pos hs, hx]
    unfold owing barPay
    iintro ⟨#HR, Ht, ⟨%f, Hslot⟩, Hts, Htr, ⟨%W, HO⟩⟩ Hk
    iapply (wp_copy m ρ K k c n hn hs O f W) $$ [Ht Hslot Hts Htr HO]
    · isplitr; · iapply (inv_send m ρ K k c); iexact HR
      isplitr; · iapply (inv_recv m ρ K k (ahead k c)); iexact HR
      isplitl [Ht]; · iexact Ht
      isplitl [Hslot]; · iexact Hslot
      isplitl [HO]; · iexact HO
      isplitl [Hts]; · iexact Hts
      isplitr; · iapply (reached_send m ρ K k c); iexact HR
      isplitl [Htr]; · iexact Htr
      iapply (reached_recv m ρ K k (ahead k c)); iexact HR
    iintro ⟨Hc, HO⟩
    iapply Hk
    isplitl [Hc]; · iexact Hc
    iexists W; iexact HO
  · have hb1 : ¬ b = 1#1 := fun h => hs (hb.mp h)
    rw [dif_neg hb1, if_neg hs, if_neg hs, if_neg hs, add_zero]
    iintro ⟨-, Ht, -, -, -, HO⟩ Hk
    iapply Hk
    isplitl [Ht] <;> iassumption

/-! ## Waiting for a copy to land -/

/-- The right to wait on receive semaphore `k`, if a copy will come. -/
def expecting (k : Fin 7) (c : Dev nD) : sProp 𝕄 := if Receives k c then cred (tallyAt (recvCell k c) () credit) else iprop(emp)

/-- Slot `k` after the point where `c` may wait for it: the totals from `k + 1` places behind, or what it held before. -/
def arrived (k : Fin 7) (c : Dev nD) (f : (cc0_scratch1 : Ref sig .tc).ty.Contents (Elt F)) : sProp 𝕄 :=
  if Receives k c then slotPts k c (landed m ρ c) else slotPts k c f

/-- Waiting for the copy from the device `k + 1` places behind, if there is one. Either way the semaphore is done with. -/
theorem step_recv (k : Fin 7) (c : Dev nD) (f : (cc0_scratch1 : Ref sig .tc).ty.Contents (Elt F))
    {b : BitVec 1} (hb : b = 1#1 ↔ Receives k c)
    {M : Memref sig .tc .vmem S1x256 .f32} (hM : M = slotM k) {sR : DmaSem sig} (hR : sR = recvS k)
    {hsrc : (tM : Memref sig .tc .vmem S1x256 .f32).view.WordExact} {hdst : M.view.WordExact}
    {α : Type} {P : Prog (TpuEff nD τ sig (Elt F) Λ₀ .tc) α} {Q : α → sProp 𝕄} :
    iprop(records m ρ K ∗ expecting (F := F) k c ∗ kept k c f ∗ atPos ER (recvCell k c) 0 ∅ 0 ∗ owing c 0)
      ⊢ iprop(((arrived m ρ k c f ∗ semVal (recvCell k c) 0 ∗ owing c 0) -∗ wpc c P Q)
          -∗ wpc c (if h : b = 1#1 then (Prog.lift (.waitDma2 sR tM M hsrc hdst)).bind fun _ => P else P) Q) := by
  subst hM hR
  unfold expecting kept arrived
  by_cases hr : Receives k c
  · have hb1 := hb.mpr hr
    rw [dif_pos hb1, if_pos hr, if_pos hr, if_pos hr]
    unfold owing
    iintro ⟨#HR, Hc, -, Hat, ⟨%W, HO⟩⟩ Hk
    iapply (Rounds.wp_wait_rest_token 𝒱₀ ER (sched m ρ) (c : Thread nD τ) none (κ := K (c, .inr (.inr k)))
        (wpE_waitDma2_eq 𝒱₀ (c : Thread nD τ) none Set.univ) (Set.mem_univ _) () (O := 0) (W := W) (R := 0) (m := 0) (T := ∅)
        (by rw [Nat.zero_add, expect_recv m ρ k c hr])) $$ [Hc HO Hat]
    · isplitr; · iapply (inv_recv m ρ K k c); iexact HR
      isplitl [Hc]; · iexact Hc
      isplitl [HO]; · iexact HO
      isplitr; · rw [MayWait_zero]; iempintro
      iexact Hat
    iintro ⟨HO, Hat, -, Hpay⟩
    ihave Hslot := (Entails.of_eq (rest_recv m ρ k c hr)) $$ Hpay
    imod (Rounds.cell_close ER (sched m ρ) (Set.mem_univ (K (c, .inr (.inr k)))) (fun h => h) (R := 0 + 1) (duties_later m ρ (recvCell k c))) $$ [Hat] with Hz
    · isplitr; · iapply (inv_recv m ρ K k c); iexact HR
      iexact Hat
    iapply Hk
    isplitl [Hslot]; · iexact Hslot
    isplitl [Hz]; · iexact Hz
    iexists _; iexact HO
  · have hb1 : ¬ b = 1#1 := fun h => hr (hb.mp h)
    rw [dif_neg hb1, if_neg hr, if_neg hr, if_neg hr]
    iintro ⟨#HR, -, Hslot, Hat, HO⟩ Hk
    imod (Rounds.cell_close ER (sched m ρ) (Set.mem_univ (K (c, .inr (.inr k)))) (fun h => h) (R := 0) (duties_recv_none m ρ k c hr)) $$ [Hat] with Hz
    · isplitr; · iapply (inv_recv m ρ K k c); iexact HR
      iexact Hat
    iapply Hk
    isplitl [Hslot]; · iexact Hslot
    isplitl [Hz] <;> iassumption

/-! ## Waiting for a copy to have left -/

/-- Waiting until the copy over distance `k + 1`, if there was one, has left: the totals' share is back and the semaphore
    is done with. -/
theorem step_left (k : Fin 7) (c : Dev nD)
    {b : BitVec 1} (hb : b = 1#1 ↔ Sends k c)
    {M : Memref sig .tc .vmem S1x256 .f32} (hM : M = slotM k) {sS : DmaSem sig} (hS : sS = sendS k)
    {hsrc : M.view.WordExact} {hdst : (tM : Memref sig .tc .vmem S1x256 .f32).view.WordExact}
    {α : Type} {P : Prog (TpuEff nD τ sig (Elt F) Λ₀ .tc) α} {Q : α → sProp 𝕄} :
    iprop(records m ρ K ∗ sent m ρ k c ∗ atPos ER (sendCell k c) 0 ∅ 0 ∗ owing c 0)
      ⊢ iprop(((totPts m ρ (share k.val) c ∗ semVal (sendCell k c) 0 ∗ owing c 0) -∗ wpc c P Q)
          -∗ wpc c (if h : b = 1#1 then (Prog.lift (.waitDma2 sS M tM hsrc hdst)).bind fun _ => P else P) Q) := by
  subst hM hS
  unfold sent
  by_cases hs : Sends k c
  · have hb1 := hb.mpr hs
    rw [dif_pos hb1, if_pos hs]
    unfold owing
    iintro ⟨#HR, Hc, Hat, ⟨%W, HO⟩⟩ Hk
    iapply (Rounds.wp_wait_rest_token 𝒱₀ ER (sched m ρ) (c : Thread nD τ) none (κ := K (c, .inr (.inl k)))
        (wpE_waitDma2_eq 𝒱₀ (c : Thread nD τ) none Set.univ) (Set.mem_univ _) () (O := 0) (W := W) (R := 0) (m := 0) (T := ∅)
        (by rw [Nat.zero_add, expect_send m ρ k c hs])) $$ [Hc HO Hat]
    · isplitr; · iapply (inv_send m ρ K k c); iexact HR
      isplitl [Hc]; · iexact Hc
      isplitl [HO]; · iexact HO
      isplitr; · rw [MayWait_zero]; iempintro
      iexact Hat
    iintro ⟨HO, Hat, -, Hpay⟩
    ihave Ht := (Entails.of_eq (rest_send m ρ k c hs)) $$ Hpay
    imod (Rounds.cell_close ER (sched m ρ) (Set.mem_univ (K (c, .inr (.inl k)))) (fun h => h) (R := 0 + 1) (duties_later m ρ (sendCell k c))) $$ [Hat] with Hz
    · isplitr; · iapply (inv_send m ρ K k c); iexact HR
      iexact Hat
    iapply Hk
    isplitl [Ht]; · iexact Ht
    isplitl [Hz]; · iexact Hz
    iexists _; iexact HO
  · have hb1 : ¬ b = 1#1 := fun h => hs (hb.mp h)
    rw [dif_neg hb1, if_neg hs]
    iintro ⟨#HR, Ht, Hat, HO⟩ Hk
    imod (Rounds.cell_close ER (sched m ρ) (Set.mem_univ (K (c, .inr (.inl k)))) (fun h => h) (R := 0) (duties_send_none m ρ k c hs)) $$ [Hat] with Hz
    · isplitr; · iapply (inv_send m ρ K k c); iexact HR
      iexact Hat
    iapply Hk
    isplitl [Ht]; · iexact Ht
    isplitl [Hz] <;> iassumption

end Cert.Scan

end
-- ==== Proof.Parts.lean ====
/-
# The body, part by part

The kernel's body is printed in five parts and a tail. For each one: from what it takes to what it leaves, for every
device at once. The seven distances are seven uses of one step.
-/
module

public import proofs.«01_k».proof.Proof.Steps

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-! ## Small tools -/

/-- Seven things conjoined, one by one. -/
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

omit [FloatOps F] in
/-- Seven debts on top of another, written out. -/
theorem debts_open (A : CellTallies nD τ sig Unit) (f : Fin 7 → CellTallies nD τ sig Unit) :
    A + lastOf f 7 = A + f 6 + f 5 + f 4 + f 3 + f 2 + f 1 + f 0 := by
  show A + (0 + f 6 + f 5 + f 4 + f 3 + f 2 + f 1 + f 0) = _
  rw [zero_add]
  simp only [add_assoc]

/-- The device's number as the kernel computes it. -/
abbrev word (c : Dev nD) : BitVec 32 := Scalar.remsi (Scalar.divsi (Dev.word c) 1#32) 8#32

/-- Device `c`'s block of the argument, staged. -/
def xPts (c : Dev nD) : sProp 𝕄 := ((c : Thread nD τ).loc cc0_stg0_0) ↦{fullShare} xstg m ρ c
/-- Device `c`'s totals buffer at contents `f`. -/
def tPts (c : Dev nD) (f : (cc0_scratch0 : Ref sig .tc).ty.Contents (Elt F)) : sProp 𝕄 := ((c : Thread nD τ).loc cc0_scratch0) ↦{fullShare} f
/-- Device `c`'s result buffer at contents `f`. -/
def oPts (c : Dev nD) (f : (cc0_stg1_0 : Ref sig .tc).ty.Contents (Elt F)) : sProp 𝕄 := ((c : Thread nD τ).loc cc0_stg1_0) ↦{fullShare} f

/-- Reading the device's number. -/
theorem step_device (c : Dev nD) {α : Type} {P : Dev nD → Prog (TpuEff nD τ sig (Elt F) Λ₀ .tc) α} {Q : α → sProp 𝕄} :
    wpc c (P c) Q ⊢ wpc c ((Prog.lift .deviceId).bind P) Q := by
  show _ ⊢ wp frame (wpE (defs₀ (F := F)) 𝒱₀ (c : Thread nD τ) none) Set.univ (.op .deviceId P) Q
  rw [wp_deviceId]

theorem zero2 : (![0, 0] : Fin 2 → Nat) = fun _ => 0 := funext fun a => by fin_cases a <;> rfl
theorem zero3 : (![0, 0, 0] : Fin 3 → Nat) = fun _ => 0 := funext fun a => by fin_cases a <;> rfl

/-- The whole rectangle of a block, of the totals, and of the receive buffer. -/
abbrev rX : Rect S256x256 := Rect.unit (s := S256x256) ![0, 0] S256x256.size inb_S256x256_S256x256_0_0
abbrev rT : Rect S1x256 := Rect.unit (s := S1x256) ![0, 0] S1x256.size inb_S1x256_S1x256_0_0
abbrev rR : Rect S7x1x256 := Rect.unit (s := S7x1x256) ![0, 0, 0] S7x1x256.size inb_S7x1x256_S7x1x256_0_0_0

/-- Loading a whole buffer gives its contents. -/
theorem step_load_x (c : Dev nD) {h : (xM : Memref sig .tc .vmem S256x256 .bf16).view.LoadsAt rX.toLoadRect}
    {α : Type} {P : Vec F S256x256 .bf16 → Prog (TpuEff nD τ sig (Elt F) Λ₀ .tc) α} {Q : α → sProp 𝕄} :
    xPts m ρ c ⊢ iprop((xPts m ρ c -∗ wpc c (P (xstg m ρ c)) Q) -∗ wpc c ((Prog.lift (.load xM rX.toLoadRect h)).bind P) Q) := by
  have e : (xM : Memref sig .tc .vmem S256x256 .bf16).view.readAt (Elt F) rX.toLoadRect (xstg m ρ c) = xstg m ρ c :=
    Memref.readAt_unit_zero (Elt F) cc0_stg0_0 zero2 _ _
  have w : xPts m ρ c ⊢ iprop((xPts m ρ c -∗ wpc c (P ((xM : Memref sig .tc .vmem S256x256 .bf16).view.readAt (Elt F) rX.toLoadRect (xstg m ρ c))) Q)
      -∗ wpc c (.op (.load xM rX.toLoadRect h) P) Q) := by unfold xPts; exact wp_load 𝒱₀ (c : Thread nD τ) none Set.univ (m := xM) (Finset.subset_univ _)
  rw [e] at w
  exact w

/-- The same for the totals' buffer, -/
theorem step_load_t (c : Dev nD) (f : (cc0_scratch0 : Ref sig .tc).ty.Contents (Elt F)) {h : (tM : Memref sig .tc .vmem S1x256 .f32).view.LoadsAt rT.toLoadRect}
    {α : Type} {P : Vec F S1x256 .f32 → Prog (TpuEff nD τ sig (Elt F) Λ₀ .tc) α} {Q : α → sProp 𝕄} :
    tPts c f ⊢ iprop((tPts c f -∗ wpc c (P f) Q) -∗ wpc c ((Prog.lift (.load tM rT.toLoadRect h)).bind P) Q) := by
  have e : (tM : Memref sig .tc .vmem S1x256 .f32).view.readAt (Elt F) rT.toLoadRect f = f := Memref.readAt_unit_zero (Elt F) cc0_scratch0 zero2 _ _
  have w : tPts c f ⊢ iprop((tPts c f -∗ wpc c (P ((tM : Memref sig .tc .vmem S1x256 .f32).view.readAt (Elt F) rT.toLoadRect f)) Q)
      -∗ wpc c (.op (.load tM rT.toLoadRect h) P) Q) := by unfold tPts; exact wp_load 𝒱₀ (c : Thread nD τ) none Set.univ (m := tM) (Finset.subset_univ _)
  rw [e] at w
  exact w

/-- the receive buffer, -/
theorem step_load_r (c : Dev nD) (f : (cc0_scratch1 : Ref sig .tc).ty.Contents (Elt F)) {h : (rM : Memref sig .tc .vmem S7x1x256 .f32).view.LoadsAt rR.toLoadRect}
    {α : Type} {P : Vec F S7x1x256 .f32 → Prog (TpuEff nD τ sig (Elt F) Λ₀ .tc) α} {Q : α → sProp 𝕄} :
    iprop(((c : Thread nD τ).loc cc0_scratch1) ↦{fullShare} f)
      ⊢ iprop(((((c : Thread nD τ).loc cc0_scratch1) ↦{fullShare} f) -∗ wpc c (P f) Q) -∗ wpc c ((Prog.lift (.load rM rR.toLoadRect h)).bind P) Q) := by
  have e : (rM : Memref sig .tc .vmem S7x1x256 .f32).view.readAt (Elt F) rR.toLoadRect f = f := Memref.readAt_unit_zero (Elt F) cc0_scratch1 zero3 _ _
  have w : iprop(((c : Thread nD τ).loc cc0_scratch1) ↦{fullShare} f)
      ⊢ iprop(((((c : Thread nD τ).loc cc0_scratch1) ↦{fullShare} f) -∗ wpc c (P ((rM : Memref sig .tc .vmem S7x1x256 .f32).view.readAt (Elt F) rR.toLoadRect f)) Q)
      -∗ wpc c (.op (.load rM rR.toLoadRect h) P) Q) := by exact wp_load 𝒱₀ (c : Thread nD τ) none Set.univ (m := rM) (Finset.subset_univ _)
  rw [e] at w
  exact w

/-- and the result's buffer. -/
theorem step_load_o (c : Dev nD) (f : (cc0_stg1_0 : Ref sig .tc).ty.Contents (Elt F)) {h : (oM : Memref sig .tc .vmem S256x256 .bf16).view.LoadsAt rX.toLoadRect}
    {α : Type} {P : Vec F S256x256 .bf16 → Prog (TpuEff nD τ sig (Elt F) Λ₀ .tc) α} {Q : α → sProp 𝕄} :
    oPts c f ⊢ iprop((oPts c f -∗ wpc c (P f) Q) -∗ wpc c ((Prog.lift (.load oM rX.toLoadRect h)).bind P) Q) := by
  have e : (oM : Memref sig .tc .vmem S256x256 .bf16).view.readAt (Elt F) rX.toLoadRect f = f := Memref.readAt_unit_zero (Elt F) cc0_stg1_0 zero2 _ _
  have w : oPts c f ⊢ iprop((oPts c f -∗ wpc c (P ((oM : Memref sig .tc .vmem S256x256 .bf16).view.readAt (Elt F) rX.toLoadRect f)) Q)
      -∗ wpc c (.op (.load oM rX.toLoadRect h) P) Q) := by unfold oPts; exact wp_load 𝒱₀ (c : Thread nD τ) none Set.univ (m := oM) (Finset.subset_univ _)
  rw [e] at w
  exact w

/-- Storing over the whole of the totals' buffer leaves what is stored, -/
theorem step_store_t (c : Dev nD) (f w : (cc0_scratch0 : Ref sig .tc).ty.Contents (Elt F))
    {h : ((tM : Memref sig .tc .vmem S1x256 .f32).access rT).Stores Finset.univ} {hm : (Finset.univ : Finset rT.shape.Idx) = Finset.univ ∨ ∀ a, rT.stride a = 1}
    {α : Type} {P : PUnit → Prog (TpuEff nD τ sig (Elt F) Λ₀ .tc) α} {Q : α → sProp 𝕄} :
    tPts c f ⊢ iprop((tPts c w -∗ wpc c (P ⟨⟩) Q) -∗ wpc c ((Prog.lift (.store tM rT w Finset.univ h hm)).bind P) Q) := by
  have e : ((tM : Memref sig .tc .vmem S1x256 .f32).access rT : View sig .tc _ _ _).write (Elt F) f w Finset.univ = w :=
    Memref.write_access_unit_zero_univ (Elt F) cc0_scratch0 zero2 _ f w
  have s : tPts c f ⊢ iprop((tPts c (((tM : Memref sig .tc .vmem S1x256 .f32).access rT : View sig .tc _ _ _).write (Elt F) f w Finset.univ) -∗ wpc c (P ⟨⟩) Q)
      -∗ wpc c (.op (.store tM rT w Finset.univ h hm) P) Q) := by unfold tPts; exact wp_store 𝒱₀ (c : Thread nD τ) none Set.univ (m := tM) (r := rT) (Mk := Finset.univ) (Finset.subset_univ _)
  rw [e] at s
  exact s

/-- and the same for the result's buffer. -/
theorem step_store_o (c : Dev nD) (f w : (cc0_stg1_0 : Ref sig .tc).ty.Contents (Elt F))
    {h : ((oM : Memref sig .tc .vmem S256x256 .bf16).access rX).Stores Finset.univ} {hm : (Finset.univ : Finset rX.shape.Idx) = Finset.univ ∨ ∀ a, rX.stride a = 1}
    {α : Type} {P : PUnit → Prog (TpuEff nD τ sig (Elt F) Λ₀ .tc) α} {Q : α → sProp 𝕄} :
    oPts c f ⊢ iprop((oPts c w -∗ wpc c (P ⟨⟩) Q) -∗ wpc c ((Prog.lift (.store oM rX w Finset.univ h hm)).bind P) Q) := by
  have e : ((oM : Memref sig .tc .vmem S256x256 .bf16).access rX : View sig .tc _ _ _).write (Elt F) f w Finset.univ = w :=
    Memref.write_access_unit_zero_univ (Elt F) cc0_stg1_0 zero2 _ f w
  have s : oPts c f ⊢ iprop((oPts c (((oM : Memref sig .tc .vmem S256x256 .bf16).access rX : View sig .tc _ _ _).write (Elt F) f w Finset.univ) -∗ wpc c (P ⟨⟩) Q)
      -∗ wpc c (.op (.store oM rX w Finset.univ h hm) P) Q) := by unfold oPts; exact wp_store 𝒱₀ (c : Thread nD τ) none Set.univ (m := oM) (r := rX) (Mk := Finset.univ) (Finset.subset_univ _)
  rw [e] at s
  exact s

/-- A program that is done. -/
theorem wpc_pure (c : Dev nD) {α : Type} {a : α} {Q : α → sProp 𝕄} : Q a ⊢ wpc c (.ret a) Q := by
  show _ ⊢ wp frame _ _ _ _
  rw [wp_ret]
  iintro H
  imodintro
  iexact H

/-! ## The barrier -/

theorem amt_eq : ∀ c : Dev nD, (k0_amt1 c).toInt = ((7 - c.val : ℕ) : ℤ) := by decide

/-- Waiting for a signal from every device ahead: each hands over its slot, and the barrier is done with. -/
theorem step_barrier (c : Dev nD) {α : Type} {P : Prog (TpuEff nD τ sig (Elt F) Λ₀ .tc) α} {Q : α → sProp 𝕄} :
    iprop(records m ρ K ∗ cred (tallyAt (barCell c) () (7 - c.val)) ∗ atPos ER (barCell c) 0 ∅ 0 ∗ levAts L lv ∗ owing c (lastOf (dueSend c) 7))
      ⊢ iprop((((bigSep Finset.univ fun k : Fin 7 => if Sends k c then barPay (F := F) k c else iprop(emp)) ∗ semVal (barCell c) 0 ∗ owing c (lastOf (dueSend c) 7)) -∗ wpc c P Q)
          -∗ wpc c ((semWaitWord barS (k0_amt1 c)).bind fun _ => P) Q) := by
  show _ ⊢ iprop(_ -∗ wpc c (.op (.semWait barS (k0_amt1 c).toInt) fun _ => P) Q)
  rw [amt_eq]
  unfold owing
  iintro ⟨#HR, Hc, Hat, #Hlev, ⟨%W, HO⟩⟩ Hk
  iapply (Rounds.wp_wait_rest_token 𝒱₀ ER (sched m ρ) (c : Thread nD τ) none (κ := K (c, .inl ())) (k := fun _ => P)
      (wpE_semWait_eq 𝒱₀ (c : Thread nD τ) none Set.univ) (Set.mem_univ _) () (O := lastOf (dueSend c) 7) (W := W) (R := 0) (m := 0) (T := ∅)
      (by rw [expect_bar, Nat.zero_add])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hslots := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iapply (inv_bar m ρ K c); iexact HR
    iexact Hat
  iapply Hk
  isplitl [Hslots]; · iexact Hslots
  isplitl [Hz]; · iexact Hz
  iexists _; iexact HO

/-! ## The first part: the signals, and the totals -/

/-- The kernel's barrier semaphore, as the kernel names it. -/
abbrev barSems : Sems sig S_ := SemArray.scalar (sig.barrier 0 rfl)

/-- Every device behind has been signalled, and the totals of the device's block are computed. -/
theorem part1_run (c : Dev nD) (f : (cc0_scratch1 : Ref sig .tc).ty.Contents (Elt F)) (f0 : (cc0_scratch0 : Ref sig .tc).ty.Contents (Elt F))
    {Q : (Σ' (d0 : Dev nD) (v2 : BitVec 32) (v3 : Sems sig S_) (v29 : FVec F S1x256 .f32), Vec F S1x256 .f32) → sProp 𝕄} :
    iprop(records m ρ K ∗ (bigSep Finset.univ fun k => dutyTok ER (barCell (behind k c)) 0 k) ∗ (bigSep Finset.univ fun k => slotPts k c f)
        ∗ owing c (O₀ c) ∗ xPts m ρ c ∗ tPts c f0)
      ⊢ iprop((((bigSep Finset.univ fun k => kept k c f) ∗ owing c (lastOf (dueSend c) 7) ∗ xPts m ρ c ∗ tPts c f0)
            -∗ Q ⟨c, word c, barSems, k0_pay1 (xstg m ρ c), f0⟩)
          -∗ wpc c (k0_part1 (F := F) xM (Memref.isWhole_whole _) oM (Memref.isWhole_whole _) tM (Memref.isWhole_whole _) rM (Memref.isWhole_whole _) cc0_scratch2 cc0_scratch3) Q) := by
  simp only [seven]
  rw [k0_part1_eq_skeleton]; unfold k0_part1_skel
  unfold O₀
  rw [debts_open]
  iintro ⟨#HR, ⟨T0, T1, T2, T3, T4, T5, T6⟩, ⟨S0, S1, S2, S3, S4, S5, S6⟩, HO, Hx, Ht⟩ Hk
  iapply (step_device c)
  iapply (step_signal m ρ K 0 c f _ ((by decide : ∀ c, k0_cond1 c = 1#1 ↔ Receives 0 c) c)
    (fun h => Fin.ext ((by decide : ∀ c, k0_cond1 c = 1#1 → k0_dev1 c = (behind 0 c).val) c h))) $$ [$HR $T0 $S0 $HO]
  iintro ⟨S0, HO⟩
  iapply (step_signal m ρ K 1 c f _ ((by decide : ∀ c, k0_cond2 c = 1#1 ↔ Receives 1 c) c)
    (fun h => Fin.ext ((by decide : ∀ c, k0_cond2 c = 1#1 → k0_dev2 c = (behind 1 c).val) c h))) $$ [$HR $T1 $S1 $HO]
  iintro ⟨S1, HO⟩
  iapply (step_signal m ρ K 2 c f _ ((by decide : ∀ c, k0_cond3 c = 1#1 ↔ Receives 2 c) c)
    (fun h => Fin.ext ((by decide : ∀ c, k0_cond3 c = 1#1 → k0_dev3 c = (behind 2 c).val) c h))) $$ [$HR $T2 $S2 $HO]
  iintro ⟨S2, HO⟩
  iapply (step_signal m ρ K 3 c f _ ((by decide : ∀ c, k0_cond4 c = 1#1 ↔ Receives 3 c) c)
    (fun h => Fin.ext ((by decide : ∀ c, k0_cond4 c = 1#1 → k0_dev4 c = (behind 3 c).val) c h))) $$ [$HR $T3 $S3 $HO]
  iintro ⟨S3, HO⟩
  iapply (step_signal m ρ K 4 c f _ ((by decide : ∀ c, k0_cond5 c = 1#1 ↔ Receives 4 c) c)
    (fun h => Fin.ext ((by decide : ∀ c, k0_cond5 c = 1#1 → k0_dev5 c = (behind 4 c).val) c h))) $$ [$HR $T4 $S4 $HO]
  iintro ⟨S4, HO⟩
  iapply (step_signal m ρ K 5 c f _ ((by decide : ∀ c, k0_cond6 c = 1#1 ↔ Receives 5 c) c)
    (fun h => Fin.ext ((by decide : ∀ c, k0_cond6 c = 1#1 → k0_dev6 c = (behind 5 c).val) c h))) $$ [$HR $T5 $S5 $HO]
  iintro ⟨S5, HO⟩
  iapply (step_signal m ρ K 6 c f _ ((by decide : ∀ c, k0_cond7 c = 1#1 ↔ Receives 6 c) c)
    (fun h => Fin.ext ((by decide : ∀ c, k0_cond7 c = 1#1 → k0_dev7 c = (behind 6 c).val) c h))) $$ [$HR $T6 $S6 $HO]
  iintro ⟨S6, HO⟩
  iapply (step_load_x m ρ c) $$ Hx; iintro Hx
  iapply (step_load_t c f0) $$ Ht; iintro Ht
  iapply (wpc_pure c)
  iapply Hk
  iframe S0 S1 S2 S3 S4 S5 S6 HO Hx Ht

end Cert.Scan

end
-- ==== Proof.Sends.lean ====
/-
# The body's second and third parts

The barrier, and the copies.
-/
module

public import proofs.«01_k».proof.Proof.Parts

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-! ## The second part: the barrier, and the first three copies -/

/-- What the copy over distance `k + 1` starts from: a share of the totals, and the slot it will write. -/
def ready (k : Fin 7) (c : Dev nD) : sProp 𝕄 := iprop(totPts m ρ (share k.val) c ∗ (if Sends k c then barPay (F := F) k c else iprop(emp)))
/-- The two duties the copy over distance `k + 1` discharges. -/
def toks (k : Fin 7) (c : Dev nD) : sProp 𝕄 := iprop(dutyTok ER (sendCell k c) 0 k ∗ dutyTok ER (recvCell k (ahead k c)) 0 k)

/-- The totals' buffer is seven shares and a rest. -/
theorem tot_split (c : Dev nD) :
    tPts c (tot m ρ c) ⊣⊢ iprop((bigSep Finset.univ fun k : Fin 7 => totPts m ρ (share k.val) c) ∗ totPts m ρ (restShare 7) c) := by
  have e : tPts c (tot m ρ c) = totPts m ρ (restShare 0) c := totPts_full m ρ c
  rw [e, seven]
  constructor
  · iintro H
    icases (totPts_cut m ρ 0 c).1 $$ H with ⟨H0, H⟩
    icases (totPts_cut m ρ 1 c).1 $$ H with ⟨H1, H⟩
    icases (totPts_cut m ρ 2 c).1 $$ H with ⟨H2, H⟩
    icases (totPts_cut m ρ 3 c).1 $$ H with ⟨H3, H⟩
    icases (totPts_cut m ρ 4 c).1 $$ H with ⟨H4, H⟩
    icases (totPts_cut m ρ 5 c).1 $$ H with ⟨H5, H⟩
    icases (totPts_cut m ρ 6 c).1 $$ H with ⟨H6, H⟩
    iframe H0 H1 H2 H3 H4 H5 H6 H
  · iintro ⟨⟨H0, H1, H2, H3, H4, H5, H6⟩, H⟩
    ihave H := (totPts_cut m ρ 6 c).2 $$ [$H6 $H]
    ihave H := (totPts_cut m ρ 5 c).2 $$ [$H5 $H]
    ihave H := (totPts_cut m ρ 4 c).2 $$ [$H4 $H]
    ihave H := (totPts_cut m ρ 3 c).2 $$ [$H3 $H]
    ihave H := (totPts_cut m ρ 2 c).2 $$ [$H2 $H]
    ihave H := (totPts_cut m ρ 1 c).2 $$ [$H1 $H]
    ihave H := (totPts_cut m ρ 0 c).2 $$ [$H0 $H]
    iexact H

set_option maxHeartbeats 1600000 in
/-- The totals are in their buffer, the barrier has been passed, and three of the copies are under way. -/
theorem part2_run (c : Dev nD) (f0 : (cc0_scratch0 : Ref sig .tc).ty.Contents (Elt F)) (v30 : Vec F S1x256 .f32)
    {Q : (Σ' (v35 : BitVec 32) (v41 : BitVec 32) (v47 : BitVec 32) (v53 : BitVec 32), BitVec 1) → sProp 𝕄} :
    iprop(records m ρ K ∗ cred (tallyAt (barCell c) () (7 - c.val)) ∗ atPos ER (barCell c) 0 ∅ 0 ∗ levAts L lv ∗ owing c (lastOf (dueSend c) 7)
        ∗ tPts c f0 ∗ toks (F := F) 0 c ∗ toks (F := F) 1 c ∗ toks (F := F) 2 c)
      ⊢ iprop((∀ r, (sent m ρ 0 c ∗ sent m ρ 1 c ∗ sent m ρ 2 c ∗ ready m ρ 3 c ∗ ready m ρ 4 c ∗ ready m ρ 5 c ∗ ready m ρ 6 c ∗ totPts m ρ (restShare 7) c
              ∗ semVal (barCell c) 0 ∗ owing c (0 + dueSend c 6 + dueSend c 5 + dueSend c 4 + dueSend c 3))
            -∗ Q r)
          -∗ wpc c (k0_part2 (F := F) xM (Memref.isWhole_whole _) oM (Memref.isWhole_whole _) tM (Memref.isWhole_whole _) rM (Memref.isWhole_whole _) cc0_scratch2 cc0_scratch3
              c (word c) barSems (k0_pay1 (xstg m ρ c)) v30) Q) := by
  rw [k0_part2_eq_skeleton]; unfold k0_part2_skel toks ready
  iintro ⟨#HR, Hc, Hat, #Hlev, HO, Ht, ⟨A0, B0⟩, ⟨A1, B1⟩, ⟨A2, B2⟩⟩ Hk
  iapply (step_store_t c f0 (tot m ρ c)) $$ Ht; iintro Ht
  ihave Hsh := ((tot_split m ρ c).1.trans (sep_mono_left (Entails.of_eq (seven _)))) $$ Ht
  iapply (step_barrier m ρ K c) $$ [$HR $Hc $Hat $Hlev $HO]
  iintro ⟨Hp, Hz, HO⟩
  rw [show lastOf (dueSend c) 7 = 0 + dueSend c 6 + dueSend c 5 + dueSend c 4 + dueSend c 3 + dueSend c 2 + dueSend c 1 + dueSend c 0 from rfl]
  ihave Hp := (Entails.of_eq (seven _)) $$ Hp
  icases Hsh with ⟨⟨H0, H1, H2, H3, H4, H5, H6⟩, Hr⟩
  icases Hp with ⟨P0, P1, P2, P3, P4, P5, P6⟩
  iapply (step_send m ρ K 0 c _ ((by decide : ∀ c, k0_cond8 c = 1#1 ↔ Sends 0 c) c) ?_) $$ [$HR $H0 $P0 $A0 $B0 $HO]
  · intro h
    refine copies 0 c ?_ ?_ ?_ ?_
    · exact Fin.ext ((by decide : ∀ c, k0_cond8 c = 1#1 → k0_dev8 c = (ahead 0 c).val) c h)
    all_goals rfl
  iintro ⟨C0, HO⟩
  iapply (step_send m ρ K 1 c _ ((by decide : ∀ c, k0_cond9 c = 1#1 ↔ Sends 1 c) c) ?_) $$ [$HR $H1 $P1 $A1 $B1 $HO]
  · intro h
    refine copies 1 c ?_ ?_ ?_ ?_
    · exact Fin.ext ((by decide : ∀ c, k0_cond9 c = 1#1 → k0_dev9 c = (ahead 1 c).val) c h)
    all_goals rfl
  iintro ⟨C1, HO⟩
  iapply (step_send m ρ K 2 c _ ((by decide : ∀ c, k0_cond10 c = 1#1 ↔ Sends 2 c) c) ?_) $$ [$HR $H2 $P2 $A2 $B2 $HO]
  · intro h
    refine copies 2 c ?_ ?_ ?_ ?_
    · exact Fin.ext ((by decide : ∀ c, k0_cond10 c = 1#1 → k0_dev10 c = (ahead 2 c).val) c h)
    all_goals rfl
  iintro ⟨C2, HO⟩
  iapply (wpc_pure c)
  iapply Hk
  iframe C0 C1 C2 H3 P3 H4 P4 H5 P5 H6 P6 Hr Hz HO

/-! ## The third part: the other four copies -/

set_option maxHeartbeats 1600000 in
/-- All the copies are under way, and nothing is owed any more. -/
theorem part3_run (c : Dev nD) (v53 : BitVec 32) (v55 : BitVec 1)
    {Q : (Σ' (v59 : BitVec 32) (v65 : BitVec 32) (v71 : BitVec 32), FVec F S256x256 .bf16) → sProp 𝕄} :
    iprop(records m ρ K ∗ owing c (0 + dueSend c 6 + dueSend c 5 + dueSend c 4 + dueSend c 3)
        ∗ (ready m ρ 3 c ∗ ready m ρ 4 c ∗ ready m ρ 5 c ∗ ready m ρ 6 c) ∗ toks (F := F) 3 c ∗ toks (F := F) 4 c ∗ toks (F := F) 5 c ∗ toks (F := F) 6 c)
      ⊢ iprop((∀ v59 v65 v71, (sent m ρ 3 c ∗ sent m ρ 4 c ∗ sent m ρ 5 c ∗ sent m ρ 6 c ∗ owing c 0) -∗ Q ⟨v59, v65, v71, k0_pay3 (F := F)⟩)
          -∗ wpc c (k0_part3 (F := F) xM (Memref.isWhole_whole _) oM (Memref.isWhole_whole _) tM (Memref.isWhole_whole _) rM (Memref.isWhole_whole _) cc0_scratch2 cc0_scratch3
              c (word c) v53 v55) Q) := by
  rw [k0_part3_eq_skeleton]; unfold k0_part3_skel toks ready
  iintro ⟨#HR, HO, ⟨⟨H3, P3⟩, ⟨H4, P4⟩, ⟨H5, P5⟩, ⟨H6, P6⟩⟩, ⟨A3, B3⟩, ⟨A4, B4⟩, ⟨A5, B5⟩, ⟨A6, B6⟩⟩ Hk
  iapply (step_send m ρ K 3 c _ ((by decide : ∀ c, k0_cond11 c = 1#1 ↔ Sends 3 c) c) ?_) $$ [$HR $H3 $P3 $A3 $B3 $HO]
  · intro h
    refine copies 3 c ?_ ?_ ?_ ?_
    · exact Fin.ext ((by decide : ∀ c, k0_cond11 c = 1#1 → k0_dev11 c = (ahead 3 c).val) c h)
    all_goals rfl
  iintro ⟨C3, HO⟩
  iapply (step_send m ρ K 4 c _ ((by decide : ∀ c, k0_cond12 c = 1#1 ↔ Sends 4 c) c) ?_) $$ [$HR $H4 $P4 $A4 $B4 $HO]
  · intro h
    refine copies 4 c ?_ ?_ ?_ ?_
    · exact Fin.ext ((by decide : ∀ c, k0_cond12 c = 1#1 → k0_dev12 c = (ahead 4 c).val) c h)
    all_goals rfl
  iintro ⟨C4, HO⟩
  iapply (step_send m ρ K 5 c _ ((by decide : ∀ c, k0_cond13 c = 1#1 ↔ Sends 5 c) c) ?_) $$ [$HR $H5 $P5 $A5 $B5 $HO]
  · intro h
    refine copies 5 c ?_ ?_ ?_ ?_
    · exact Fin.ext ((by decide : ∀ c, k0_cond13 c = 1#1 → k0_dev13 c = (ahead 5 c).val) c h)
    all_goals rfl
  iintro ⟨C5, HO⟩
  iapply (step_send m ρ K 6 c _ ((by decide : ∀ c, k0_cond14 c = 1#1 ↔ Sends 6 c) c) ?_) $$ [$HR $H6 $P6 $A6 $B6 $HO]
  · intro h
    refine copies 6 c ?_ ?_ ?_ ?_
    · exact Fin.ext ((by decide : ∀ c, k0_cond14 c = 1#1 → k0_dev14 c = (ahead 6 c).val) c h)
    all_goals rfl
  iintro ⟨C6, HO⟩
  iapply (wpc_pure c)
  iapply Hk
  iframe C3 C4 C5 C6 HO

end Cert.Scan

end
-- ==== Proof.Waits.lean ====
/-
# The body's fourth and fifth parts, and its tail

The waits for the copies to land, the result, and the waits for the copies to have left.
-/
module

public import proofs.«01_k».proof.Proof.Sends

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-! ## The fourth part: the block's own prefix sums, and six of the waits -/

/-- What the wait for distance `k + 1` starts from, -/
def waiting (k : Fin 7) (c : Dev nD) (f : (cc0_scratch1 : Ref sig .tc).ty.Contents (Elt F)) : sProp 𝕄 :=
  iprop(expecting (F := F) k c ∗ kept k c f ∗ atPos ER (recvCell k c) 0 ∅ 0)
/-- and what it leaves. -/
def waited (k : Fin 7) (c : Dev nD) (f : (cc0_scratch1 : Ref sig .tc).ty.Contents (Elt F)) : sProp 𝕄 :=
  iprop(arrived m ρ k c f ∗ semVal (recvCell k c) 0)

set_option maxHeartbeats 1600000 in
/-- The block's own prefix sums are computed, and the totals from up to six places behind have come. -/
theorem part4_run (c : Dev nD) (f : (cc0_scratch1 : Ref sig .tc).ty.Contents (Elt F)) (v35 v41 v47 v53 v59 v65 : BitVec 32) (v81 : FVec F S256x256 .bf16)
    {Q : (Σ' (v84 : FVec F S256x256 .f32), BitVec 1) → sProp 𝕄} :
    iprop(records m ρ K ∗ owing c 0 ∗ xPts m ρ c
        ∗ waiting 0 c f ∗ waiting 1 c f ∗ waiting 2 c f ∗ waiting 3 c f ∗ waiting 4 c f ∗ waiting 5 c f)
      ⊢ iprop(((owing c 0 ∗ xPts m ρ c ∗ waited m ρ 0 c f ∗ waited m ρ 1 c f ∗ waited m ρ 2 c f ∗ waited m ρ 3 c f ∗ waited m ρ 4 c f ∗ waited m ρ 5 c f)
            -∗ Q ⟨k0_pay4 v81 (xstg m ρ c), Scalar.cmpi .sge (word c) 7#32⟩)
          -∗ wpc c (k0_part4 (F := F) xM (Memref.isWhole_whole _) oM (Memref.isWhole_whole _) tM (Memref.isWhole_whole _) rM (Memref.isWhole_whole _) cc0_scratch2 cc0_scratch3
              (word c) v35 v41 v47 v53 v59 v65 v81) Q) := by
  rw [k0_part4_eq_skeleton]; unfold k0_part4_skel waiting waited
  iintro ⟨#HR, HO, Hx, ⟨E0, S0, A0⟩, ⟨E1, S1, A1⟩, ⟨E2, S2, A2⟩, ⟨E3, S3, A3⟩, ⟨E4, S4, A4⟩, ⟨E5, S5, A5⟩⟩ Hk
  iapply (step_load_x m ρ c) $$ Hx; iintro Hx
  iapply (step_recv m ρ K 0 c f ((by decide : ∀ c, Scalar.cmpi .ne (Scalar.extui (Scalar.cmpi .sge (word c) 1#32)) 0#32 = 1#1 ↔ Receives 0 c) c) ?_ ?_)
    $$ [$HR $E0 $S0 $A0 $HO]
  · rfl
  · rfl
  iintro ⟨S0, Z0, HO⟩
  iapply (step_recv m ρ K 1 c f ((by decide : ∀ c, Scalar.cmpi .ne (Scalar.extui (Scalar.cmpi .sge (word c) 2#32)) 0#32 = 1#1 ↔ Receives 1 c) c) ?_ ?_)
    $$ [$HR $E1 $S1 $A1 $HO]
  · rfl
  · rfl
  iintro ⟨S1, Z1, HO⟩
  iapply (step_recv m ρ K 2 c f ((by decide : ∀ c, Scalar.cmpi .ne (Scalar.extui (Scalar.cmpi .sge (word c) 3#32)) 0#32 = 1#1 ↔ Receives 2 c) c) ?_ ?_)
    $$ [$HR $E2 $S2 $A2 $HO]
  · rfl
  · rfl
  iintro ⟨S2, Z2, HO⟩
  iapply (step_recv m ρ K 3 c f ((by decide : ∀ c, Scalar.cmpi .ne (Scalar.extui (Scalar.cmpi .sge (word c) 4#32)) 0#32 = 1#1 ↔ Receives 3 c) c) ?_ ?_)
    $$ [$HR $E3 $S3 $A3 $HO]
  · rfl
  · rfl
  iintro ⟨S3, Z3, HO⟩
  iapply (step_recv m ρ K 4 c f ((by decide : ∀ c, Scalar.cmpi .ne (Scalar.extui (Scalar.cmpi .sge (word c) 5#32)) 0#32 = 1#1 ↔ Receives 4 c) c) ?_ ?_)
    $$ [$HR $E4 $S4 $A4 $HO]
  · rfl
  · rfl
  iintro ⟨S4, Z4, HO⟩
  iapply (step_recv m ρ K 5 c f ((by decide : ∀ c, Scalar.cmpi .ne (Scalar.extui (Scalar.cmpi .sge (word c) 6#32)) 0#32 = 1#1 ↔ Receives 5 c) c) ?_ ?_)
    $$ [$HR $E5 $S5 $A5 $HO]
  · rfl
  · rfl
  iintro ⟨S5, Z5, HO⟩
  iapply (wpc_pure c)
  iapply Hk
  iframe HO Hx S0 Z0 S1 Z1 S2 Z2 S3 Z3 S4 Z4 S5 Z5

end Cert.Scan

end
-- ==== Proof.Gather.lean ====
/-
# What the result is computed from

The device reads its whole receive buffer, but only the slots of the devices behind it have been written. The result
does not depend on the others.
-/
module

public import proofs.«01_k».proof.Proof.Waits
public import Idealize.ShloMosaic.Lib.PointwiseCore

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The receive buffer once every copy has landed: the totals where one came, what was there where none did. -/
def gathered (c : Dev nD) (f : (cc0_scratch1 : Ref sig .tc).ty.Contents (Elt F)) : (cc0_scratch1 : Ref sig .tc).ty.Contents (Elt F) :=
  fun i => if Receives (i 0) c then landed m ρ c i else f i

theorem arrived_eq (k : Fin 7) (c : Dev nD) (f : (cc0_scratch1 : Ref sig .tc).ty.Contents (Elt F)) :
    arrived m ρ k c f = slotPts k c (gathered m ρ c f) := by
  unfold arrived
  by_cases h : Receives k c
  · rw [if_pos h]
    refine slotPts_congr k c fun i hi => ?_
    have hk : i 0 = k := (mem_slotSet k i).mp hi
    unfold gathered
    rw [if_pos (by rw [hk]; exact h)]
  · rw [if_neg h]
    refine slotPts_congr k c fun i hi => ?_
    have hk : i 0 = k := (mem_slotSet k i).mp hi
    unfold gathered
    rw [if_neg (by rw [hk]; exact h)]

/-- The seven slots make the receive buffer again. -/
theorem gather (c : Dev nD) (f : (cc0_scratch1 : Ref sig .tc).ty.Contents (Elt F)) :
    iprop(arrived m ρ 0 c f ∗ arrived m ρ 1 c f ∗ arrived m ρ 2 c f ∗ arrived m ρ 3 c f ∗ arrived m ρ 4 c f ∗ arrived m ρ 5 c f ∗ arrived m ρ 6 c f)
      = (((c : Thread nD τ).loc cc0_scratch1) ↦{fullShare} gathered m ρ c f : sProp 𝕄) := by
  simp only [arrived_eq]
  rw [slots_eq, seven]

/-- The kernel's mask on the slots: slot `k` is used exactly if device `c` receives over distance `k + 1`. -/
theorem mask_iff : ∀ (k : Fin 7) (c : Dev nD), Scalar.cmpi .sle (Scalar.addi (BitVec.ofNat 32 k.val) 1#32) (word c) = 1#1 ↔ Receives k c := by decide

/-- The result reads only the slots that were written. -/
theorem pay5_gathered (c : Dev nD) (y : FVec F S256x256 .f32) (f : (cc0_scratch1 : Ref sig .tc).ty.Contents (Elt F)) :
    k0_pay5 (word c) y (gathered m ρ c f) = k0_pay5 (word c) y (landed m ρ c) := by
  have e : select (cmpi .sle (addi (iota .tc S7x256 32 [0] iota_S7x256_d0_w32) (broadcast S7x256 1#32)) (broadcast S7x256 (word c)))
        (shapeCast S7x256 (gathered m ρ c f) shapeCasts_S7x1x256_S7x256) (broadcast S7x256 (Scalar.ofBits .f32 0x00000000#32 : F .f32))
      = select (cmpi .sle (addi (iota .tc S7x256 32 [0] iota_S7x256_d0_w32) (broadcast S7x256 1#32)) (broadcast S7x256 (word c)))
        (shapeCast S7x256 (landed m ρ c) shapeCasts_S7x1x256_S7x256) (broadcast S7x256 (Scalar.ofBits .f32 0x00000000#32 : F .f32)) := by
    funext i
    pointwise
    by_cases h : Receives (i 0) c
    · have hg : gathered m ρ c f (ix3 (i 0) 0 (i 1)) = landed m ρ c (ix3 (i 0) 0 (i 1)) := if_pos h
      rw [hg]
    · have hm : ¬ IntOp.cmpi .sle (IntOp.addi (BitVec.ofNat 32 (i 0 : Fin 7).val) 1#32) (word c) = 1#1 := fun hh => h ((mask_iff (i 0) c).mp hh)
      exact (if_neg hm).trans (if_neg hm).symm
  unfold k0_pay5
  simp only [e]

end Cert.Scan

end
-- ==== Proof.Ends.lean ====
/-
# The body's fifth part

The last copy comes in, the result is stored, and the first two departures are waited for.
-/
module

public import proofs.«01_k».proof.Proof.Gather

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- What waiting for a departure takes: what the send left, and the waiter's place on the cell. -/
def leaving (k : Fin 7) (c : Dev nD) : sProp 𝕄 := iprop(sent m ρ k c ∗ atPos ER (sendCell k c) 0 ∅ 0)
/-- What it gives: the share of the totals is back, and the cell is done with. -/
def left (k : Fin 7) (c : Dev nD) : sProp 𝕄 := iprop(totPts m ρ (share k.val) c ∗ semVal (sendCell k c) 0)

set_option maxHeartbeats 1600000 in
/-- The result is stored: what the kernel's last payload makes of the prefix sums `y` and the totals that landed. -/
theorem part5_run (c : Dev nD) (f : (cc0_scratch1 : Ref sig .tc).ty.Contents (Elt F)) (g : (cc0_stg1_0 : Ref sig .tc).ty.Contents (Elt F))
    (v71 : BitVec 32) (y : FVec F S256x256 .f32) {Q : BitVec 32 → sProp 𝕄} :
    iprop(records m ρ K ∗ owing c 0 ∗ oPts c g
        ∗ (arrived m ρ 0 c f ∗ arrived m ρ 1 c f ∗ arrived m ρ 2 c f ∗ arrived m ρ 3 c f ∗ arrived m ρ 4 c f ∗ arrived m ρ 5 c f ∗ waiting (F := F) 6 c f)
        ∗ leaving m ρ 0 c ∗ leaving m ρ 1 c)
      ⊢ iprop(((owing c 0 ∗ oPts c (k0_pay5 (word c) y (landed m ρ c)) ∗ (((c : Thread nD τ).loc cc0_scratch1) ↦{fullShare} gathered m ρ c f)
              ∗ semVal (recvCell 6 c) 0 ∗ left m ρ 0 c ∗ left m ρ 1 c)
            -∗ Q (Scalar.extui (Scalar.cmpi .slt (Scalar.addi (word c) 3#32) 8#32)))
          -∗ wpc c (k0_part5 (F := F) xM (Memref.isWhole_whole _) oM (Memref.isWhole_whole _) tM (Memref.isWhole_whole _) rM (Memref.isWhole_whole _) cc0_scratch2 cc0_scratch3
              (word c) v71 y (Scalar.cmpi .sge (word c) 7#32)) Q) := by
  rw [k0_part5_eq_skeleton]; unfold k0_part5_skel waiting leaving left
  iintro ⟨#HR, HO, Ho, ⟨S0, S1, S2, S3, S4, S5, ⟨E6, S6, A6⟩⟩, ⟨C0, B0⟩, ⟨C1, B1⟩⟩ Hk
  iapply (step_recv m ρ K 6 c f ((by decide : ∀ c, Scalar.cmpi .ne (Scalar.extui (Scalar.cmpi .sge (word c) 7#32)) 0#32 = 1#1 ↔ Receives 6 c) c) ?_ ?_)
    $$ [$HR $E6 $S6 $A6 $HO]
  · rfl
  · rfl
  iintro ⟨S6, Z6, HO⟩
  ihave Hr := (Entails.of_eq (gather m ρ c f)) $$ [$S0 $S1 $S2 $S3 $S4 $S5 $S6]
  iapply (step_load_r c (gathered m ρ c f)) $$ Hr; iintro Hr
  iapply (step_load_o c g) $$ Ho; iintro Ho
  iapply (step_store_o c g (k0_pay5 (word c) y (gathered m ρ c f))) $$ Ho; iintro Ho
  rw [pay5_gathered m ρ c y f]
  iapply (step_left m ρ K 0 c ((by decide : ∀ c, Scalar.cmpi .ne (Scalar.extui (Scalar.cmpi .slt (Scalar.addi (word c) 1#32) 8#32)) 0#32 = 1#1 ↔ Sends 0 c) c) ?_ ?_)
    $$ [$HR $C0 $B0 $HO]
  · rfl
  · rfl
  iintro ⟨H0, Y0, HO⟩
  iapply (step_left m ρ K 1 c ((by decide : ∀ c, Scalar.cmpi .ne (Scalar.extui (Scalar.cmpi .slt (Scalar.addi (word c) 2#32) 8#32)) 0#32 = 1#1 ↔ Sends 1 c) c) ?_ ?_)
    $$ [$HR $C1 $B1 $HO]
  · rfl
  · rfl
  iintro ⟨H1, Y1, HO⟩
  iapply (wpc_pure c)
  iapply Hk
  iframe HO Ho Hr Z6 H0 Y0 H1 Y1

end Cert.Scan

end
-- ==== Proof.Body.lean ====
/-
# The whole body

The five parts and the tail, one after another, at a symbolic device.
-/
module

public import proofs.«01_k».proof.Proof.Ends

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-- Running one program and then another. -/
theorem wpc_bind (c : Dev nD) {α β : Type} {P : Prog (TpuEff nD τ sig (Elt F) Λ₀ .tc) α} {k : α → Prog (TpuEff nD τ sig (Elt F) Λ₀ .tc) β} {Q : β → sProp 𝕄} :
    wpc c P (fun a => wpc c (k a) Q) ⊢ wpc c (P.bind k) Q := by
  refine Entails.of_eq ?_
  show _ = wpc c (P >>= k) Q
  unfold wpc
  rw [wp_bind]

/-- The kernel's result on device `c`: the prefix sums of its own block plus the totals of every device behind. -/
def outAt (c : Dev nD) : (cc0_stg1_0 : Ref sig .tc).ty.Contents (Elt F) :=
  k0_pay5 (word c) (k0_pay4 (k0_pay3 (F := F)) (xstg m ρ c)) (landed m ρ c)

/-- Device `c`'s receive buffer at contents `f`. -/
def rPts (c : Dev nD) (f : (cc0_scratch1 : Ref sig .tc).ty.Contents (Elt F)) : sProp 𝕄 := ((c : Thread nD τ).loc cc0_scratch1) ↦{fullShare} f

/-- The duties device `c` discharges, and its place on each of its own cells. -/
def linear (c : Dev nD) : sProp 𝕄 :=
  iprop((bigSep Finset.univ fun k => dutyTok ER (barCell (behind k c)) 0 k) ∗ (bigSep Finset.univ fun k => toks (F := F) k c)
    ∗ atPos ER (barCell c) 0 ∅ 0 ∗ (bigSep Finset.univ fun k => atPos ER (sendCell k c) 0 ∅ 0) ∗ (bigSep Finset.univ fun k => atPos ER (recvCell k c) 0 ∅ 0))

/-- The credits device `c` may count on: a signal from every device ahead, a copy from every device behind. -/
def hopes (c : Dev nD) : sProp 𝕄 :=
  iprop(cred (tallyAt (barCell c) () (7 - c.val)) ∗ bigSep Finset.univ fun k => expecting (F := F) k c)

/-- All fifteen semaphores of device `c` at zero. -/
def closed (c : Dev nD) : sProp 𝕄 :=
  iprop(semVal (barCell c) 0 ∗ (bigSep Finset.univ fun k => semVal (sendCell k c) 0) ∗ bigSep Finset.univ fun k => semVal (recvCell k c) 0)

set_option maxHeartbeats 1600000 in
/-- The body of device `c`, whatever its buffers hold: it ends owing nothing, with its result stored, its block as it was
    and its semaphores at zero. -/
theorem body_run (c : Dev nD) (f0 : (cc0_scratch0 : Ref sig .tc).ty.Contents (Elt F)) (f : (cc0_scratch1 : Ref sig .tc).ty.Contents (Elt F))
    (g : (cc0_stg1_0 : Ref sig .tc).ty.Contents (Elt F)) {Q : PUnit → sProp 𝕄} :
    iprop(records m ρ K ∗ linear c ∗ hopes c ∗ levAts L lv ∗ owing c (O₀ c) ∗ xPts m ρ c ∗ oPts c g ∗ tPts c f0 ∗ rPts c f)
      ⊢ iprop(((closed c ∗ owing c 0 ∗ xPts m ρ c ∗ oPts c (outAt m ρ c) ∗ tPts c (tot m ρ c) ∗ rPts c (gathered m ρ c f)) -∗ Q ⟨⟩)
          -∗ wpc c (cc0_body (F := F) xM (Memref.isWhole_whole _) oM (Memref.isWhole_whole _) tM (Memref.isWhole_whole _) rM (Memref.isWhole_whole _) cc0_scratch2 cc0_scratch3) Q) := by
  rw [cc0_body_eq_skeleton]
  unfold linear hopes closed rPts
  rw [slots_eq]
  iintro ⟨#HR, ⟨Tb, Tk, Ab, As, Ar⟩, ⟨Cb, Ex⟩, #Hlev, HO, Hx, Ho, Ht, Hr⟩ Hk
  unfold cc0_body_skel
  iapply (wpc_bind c)
  iapply (part1_run m ρ K c f f0) $$ [$HR $Tb $Hr $HO $Hx $Ht]
  iintro ⟨Hkp, HO, Hx, Ht⟩
  ihave Tk := (Entails.of_eq (seven _)) $$ Tk
  ihave As := (Entails.of_eq (seven _)) $$ As
  ihave Ar := (Entails.of_eq (seven _)) $$ Ar
  ihave Ex := (Entails.of_eq (seven _)) $$ Ex
  ihave Hkp := (Entails.of_eq (seven _)) $$ Hkp
  icases Tk with ⟨T0, T1, T2, T3, T4, T5, T6⟩
  icases As with ⟨B0, B1, B2, B3, B4, B5, B6⟩
  icases Ar with ⟨A0, A1, A2, A3, A4, A5, A6⟩
  icases Ex with ⟨E0, E1, E2, E3, E4, E5, E6⟩
  icases Hkp with ⟨S0, S1, S2, S3, S4, S5, S6⟩
  iapply (wpc_bind c)
  iapply (part2_run m ρ K c f0 f0) $$ [$HR $Cb $Ab $Hlev $HO $Ht $T0 $T1 $T2]
  iintro %r ⟨C0, C1, C2, R3, R4, R5, R6, Hrest, Zb, HO⟩
  obtain ⟨v35, v41, v47, v53, v55⟩ := r
  iapply (wpc_bind c)
  iapply (part3_run m ρ K c v53 v55) $$ [$HR $HO $R3 $R4 $R5 $R6 $T3 $T4 $T5 $T6]
  iintro %v59 %v65 %v71 ⟨C3, C4, C5, C6, HO⟩
  iapply (wpc_bind c)
  iapply (part4_run m ρ K c f v35 v41 v47 v53 v59 v65 (k0_pay3 (F := F))) $$ [HO Hx E0 S0 A0 E1 S1 A1 E2 S2 A2 E3 S3 A3 E4 S4 A4 E5 S5 A5]
  · unfold waiting
    iframe HR HO Hx E0 S0 A0 E1 S1 A1 E2 S2 A2 E3 S3 A3 E4 S4 A4 E5 S5 A5
  unfold waited
  iintro ⟨HO, Hx, ⟨S0, Z0⟩, ⟨S1, Z1⟩, ⟨S2, Z2⟩, ⟨S3, Z3⟩, ⟨S4, Z4⟩, ⟨S5, Z5⟩⟩
  iapply (wpc_bind c)
  iapply (part5_run m ρ K c f g v71 (k0_pay4 (k0_pay3 (F := F)) (xstg m ρ c))) $$ [HO Ho S0 S1 S2 S3 S4 S5 E6 S6 A6 C0 B0 C1 B1]
  · unfold waiting leaving
    iframe HR HO Ho S0 S1 S2 S3 S4 S5 E6 S6 A6 C0 B0 C1 B1
  unfold left
  iintro ⟨HO, Ho, Hr, Z6, ⟨H0, Y0⟩, ⟨H1, Y1⟩⟩
  iapply (step_left m ρ K 2 c ((by decide : ∀ c, Scalar.cmpi .ne (Scalar.extui (Scalar.cmpi .slt (Scalar.addi (word c) 3#32) 8#32)) 0#32 = 1#1 ↔ Sends 2 c) c) ?_ ?_)
    $$ [$HR $C2 $B2 $HO]
  · rfl
  · rfl
  iintro ⟨H2, Y2, HO⟩
  iapply (step_left m ρ K 3 c ((by decide : ∀ c, Scalar.cmpi .ne (Scalar.extui (Scalar.cmpi .slt (Scalar.addi (word c) 4#32) 8#32)) 0#32 = 1#1 ↔ Sends 3 c) c) ?_ ?_)
    $$ [$HR $C3 $B3 $HO]
  · rfl
  · rfl
  iintro ⟨H3, Y3, HO⟩
  iapply (step_left m ρ K 4 c ((by decide : ∀ c, Scalar.cmpi .ne (Scalar.extui (Scalar.cmpi .slt (Scalar.addi (word c) 5#32) 8#32)) 0#32 = 1#1 ↔ Sends 4 c) c) ?_ ?_)
    $$ [$HR $C4 $B4 $HO]
  · rfl
  · rfl
  iintro ⟨H4, Y4, HO⟩
  iapply (step_left m ρ K 5 c ((by decide : ∀ c, Scalar.cmpi .ne (Scalar.extui (Scalar.cmpi .slt (Scalar.addi (word c) 6#32) 8#32)) 0#32 = 1#1 ↔ Sends 5 c) c) ?_ ?_)
    $$ [$HR $C5 $B5 $HO]
  · rfl
  · rfl
  iintro ⟨H5, Y5, HO⟩
  iapply (step_left m ρ K 6 c ((by decide : ∀ c, Scalar.cmpi .ne (Scalar.extui (Scalar.cmpi .slt (Scalar.addi (word c) 7#32) 8#32)) 0#32 = 1#1 ↔ Sends 6 c) c) ?_ ?_)
    $$ [$HR $C6 $B6 $HO]
  · rfl
  · rfl
  iintro ⟨H6, Y6, HO⟩
  iapply (wpc_pure c)
  iapply Hk
  ihave Ht := ((sep_mono_left (Entails.of_eq (seven _).symm)).trans (tot_split m ρ c).2) $$ [H0 H1 H2 H3 H4 H5 H6 Hrest]
  · iframe H0 H1 H2 H3 H4 H5 H6 Hrest
  rw [seven, seven]
  unfold outAt
  iframe Zb Y0 Y1 Y2 Y3 Y4 Y5 Y6 Z0 Z1 Z2 Z3 Z4 Z5 Z6 HO Hx Ho Ht Hr

end Cert.Scan

end
-- ==== Proof.Data.lean ====
/-
# The body as the pipeline calls it

What device `c` starts from and ends with, stated as the launch wants it.
-/
module

public import proofs.«01_k».proof.Proof.Body
public import proofs.«01_k».proof.Proof.Gen.KernelIdeal.Launch
public import proofs.«01_k».proof.Proof.Gen.KernelIdeal.Points

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The records of the protocol under some names, and what is device `c`'s alone. -/
def ghost (c : Dev nD) : sProp 𝕄 := iprop(∃ K, records m ρ K ∗ linear (F := F) c)
/-- What device `c`'s body starts from. -/
def start (c : Dev nD) : sProp 𝕄 := iprop(ghost m ρ c ∗ hopes (F := F) c ∗ levAts L lv)

/-- Before the body: its start, and its two scratch buffers. -/
def Φ₀ (c : Dev nD) : sProp 𝕄 := iprop(start m ρ c ∗ (∃ f, tPts (F := F) c f) ∗ (∃ f, rPts (F := F) c f))
/-- After the body: its semaphores at zero, and its two scratch buffers. -/
def Φ₁ (c : Dev nD) : sProp 𝕄 := iprop(closed (F := F) c ∗ (∃ f, tPts (F := F) c f) ∗ (∃ f, rPts (F := F) c f))

/-- The proof data of the one pipeline. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A whole buffer owned at given contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer `b` of device `c` at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline gives the body, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it takes back. -/
def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ c))

/-- The body meets the pipeline's terms. -/
theorem sound_body (c : Dev nD) :
    bodyPre m ρ c ⊢ wpc c (cc0_body (F := F) xM (Memref.isWhole_whole _) oM (Memref.isWhole_whole _) tM (Memref.isWhole_whole _) rM (Memref.isWhole_whole _) cc0_scratch2 cc0_scratch3)
      (fun _ => bodyPost m ρ c) := by
  unfold bodyPre Φ₀ start ghost
  iintro ⟨⟨⟨⟨%K, #HR, Hlin⟩, Hh, #Hlev⟩, ⟨%f0, Ht⟩, ⟨%f, Hr⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (body_run m ρ K c f0 f g1) $$ [HO Hlin Hh Hx Hout Ht Hr]
  · unfold owing xPts oPts
    iframe HR Hlin Hh Hlev Hx Hout Ht Hr
    iexists W; iexact HO
  unfold owing
  iintro ⟨Hz, ⟨%W', HO⟩, Hx, Hout, Ht, Hr⟩
  unfold bodyPost Φ₁ Dat.owesAt Pipeline.owesWithin xPts oPts
  rw [show (dats m ρ 0 c).owed t0_0.succ = 0 from rfl]
  isplitl [Hz Ht Hr]
  · isplitl [Hz]; · iexact Hz
    isplitl [Ht]
    · iexists _; iexact Ht
    · iexists _; iexact Hr
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's obligation on the body, on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound_body m ρ c

end Cert.Scan

end
-- ==== Proof.Credits.lean ====
/-
# What the launch promises each device

Everything the devices owe at launch, counted by who is owed: a barrier is owed a signal by every device ahead, and each
receive semaphore a copy by the device that far behind, if there is one.
-/
module

public import proofs.«01_k».proof.Proof.Data

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The copy over distance `k + 1` that device `c` is owed, if there is a device that far behind. -/
def owedRecv (c : Dev nD) (k : Fin 7) : CellTallies nD τ sig Unit := if Receives k c then tallyAt (recvCell k c) () credit else 0
/-- The signal over distance `k + 1` that device `c`'s barrier is owed, if there is a device that far ahead. -/
def owedSig (c : Dev nD) (k : Fin 7) : CellTallies nD τ sig Unit := if Sends k c then tallyAt (barCell c) () 1 else 0

/-- Everything device `c` is owed. -/
def T₀ (c : Dev nD) : CellTallies nD τ sig Unit := (∑ k, owedRecv c k) + ∑ k, owedSig c k

theorem sum_dueSend (k : Fin 7) : ∑ d, dueSend d k = ∑ d, owedRecv d k := by
  rw [← Equiv.sum_comp (shift k) fun d => owedRecv d k]
  refine Finset.sum_congr rfl fun d _ => ?_
  show dueSend d k = owedRecv (ahead k d) k
  unfold dueSend owedRecv
  exact if_congr (receives_ahead k d).symm rfl rfl

theorem sum_dueSig (k : Fin 7) : ∑ d, dueSig d k = ∑ d, owedSig d k := by
  rw [← Equiv.sum_comp (shift k) fun d => dueSig d k]
  refine Finset.sum_congr rfl fun d _ => ?_
  show dueSig (ahead k d) k = owedSig d k
  unfold dueSig owedSig
  rw [behind_ahead]
  exact if_congr (receives_ahead k d) rfl rfl

/-- What is owed is what is to be received. -/
theorem sum_owed : ∑ d, O₀ d = ∑ d, T₀ d := by
  have h : ∀ d, O₀ d = (∑ k, dueSend d k) + ∑ k, dueSig d k := fun d => by unfold O₀; rw [lastOf_seven, lastOf_seven]
  unfold T₀
  simp only [h, Finset.sum_add_distrib]
  rw [Finset.sum_comm (f := fun d k => dueSend d k), Finset.sum_comm (f := fun d k => dueSig d k),
    Finset.sum_comm (f := fun d k => owedRecv d k), Finset.sum_comm (f := fun d k => owedSig d k)]
  congr 1
  · exact Finset.sum_congr rfl fun k _ => sum_dueSend k
  · exact Finset.sum_congr rfl fun k _ => sum_dueSig k

/-- Every device is owed on its own semaphores only. -/
theorem T₀_own (d : Dev nD) (g : GSem nD τ sig) (h : T₀ d g ≠ 0) : g.1 = (d.tc : Thread nD τ) := by
  by_contra hg
  refine h ?_
  have hr : ∀ k, owedRecv d k g = 0 := fun k => by
    unfold owedRecv
    split
    · exact tallyAt_ne_cell (fun e => hg (congrArg Prod.fst e)) _ _
    · rfl
  have hs : ∀ k, owedSig d k g = 0 := fun k => by
    unfold owedSig
    split
    · exact tallyAt_ne_cell (fun e => hg (congrArg Prod.fst e)) _ _
    · rfl
  unfold T₀
  rw [Pi.add_apply, Finset.sum_apply, Finset.sum_apply, Finset.sum_eq_zero fun k _ => hr k, Finset.sum_eq_zero fun k _ => hs k]
  exact add_zero 0

theorem sum_owedSig (c : Dev nD) : ∑ k, owedSig c k = tallyAt (barCell c) () (7 - c.val) := by
  have h : ∀ k : Fin 7, owedSig c k = tallyAt (barCell c) () (if Sends k c then 1 else 0) := fun k => by
    unfold owedSig
    split
    · rfl
    · rw [tallyAt_zero]
  have hadd : ∀ s : Finset (Fin 7), ∑ k ∈ s, owedSig c k = tallyAt (barCell c) () (∑ k ∈ s, if Sends k c then 1 else 0) := fun s => by
    induction s using Finset.induction_on with
    | empty => rw [Finset.sum_empty, Finset.sum_empty, tallyAt_zero]
    | insert k s hk ih => rw [Finset.sum_insert hk, Finset.sum_insert hk, ih, h k, tallyAt_add]
  rw [hadd]
  exact congrArg _ ((by decide : ∀ c : Dev nD, (∑ k : Fin 7, if Sends k c then 1 else 0) = 7 - c.val) c)

/-- Credit for a sum of tallies is the credits together. -/
theorem cred_sum (s : Finset (Fin 7)) (T : Fin 7 → CellTallies nD τ sig Unit) : (cred (∑ k ∈ s, T k) : sProp 𝕄) = bigSep s fun k => cred (T k) := by
  induction s using Finset.induction_on with
  | empty => rw [Finset.sum_empty, cred_zero, BI.bigSep_empty]; rfl
  | insert k s hk ih => rw [Finset.sum_insert hk, BI.bigSep_insert hk, BI.Entails.antisymm (cred_add _ _).1 (cred_add _ _).2, ih]; rfl

/-- The launch gives device `c` the credits its body counts on. -/
theorem launch_hopes (c : Dev nD) : (Pipeline.launchCred O₀ c : sProp 𝕄) ⊢ hopes (F := F) c := by
  rw [Pipeline.launchCred_of_sum O₀ T₀ sum_owed T₀_own c]
  unfold T₀ hopes
  rw [sum_owedSig]
  have e : (cred (∑ k, owedRecv c k) : sProp 𝕄) = bigSep Finset.univ fun k => expecting (F := F) k c := by
    rw [cred_sum]
    refine bigSep_congr fun k _ => ?_
    unfold owedRecv expecting
    split
    · rfl
    · exact cred_zero
  refine (cred_add _ _).1.trans ?_
  rw [e]
  iintro ⟨H1, H2⟩
  iframe H1 H2

end Cert.Scan

end
-- ==== Proof.Launch.lean ====
/-
# The launch

Tokens and positions are minted on every device for its own cells, the cells' invariants are set up, and each token is
dealt to the device that will discharge its duty.
-/
module

public import proofs.«01_k».proof.Proof.Credits

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

theorem own_facts : Pipeline.OwnSemFacts cfg0.spec osem := by decide

theorem share_whole (c : Dev nD) (w : Fin cfg0.W) : (dats m ρ 0 c).share w = fullShare := by unfold Dat.share; split <;> rfl

/-- The protocol's cells, on all devices. -/
def scanCells : Finset (GSem nD τ sig) := Finset.univ.map ⟨kcell, kcell_injective⟩

/-- The duties on one device's cells: seven on its barrier, one on each of its other fourteen. -/
abbrev DutyIx : Type := Fin 7 ⊕ (Fin 7 ⊕ Fin 7)
/-- The cell a duty is on, and its name there. -/
abbrev dutyCell (x : DutyIx) : CellIx := Sum.map (fun _ => ()) id x
abbrev dutyName : DutyIx → Fin 7 := Sum.elim id (Sum.elim id id)
abbrev tokOf (cx : Dev nD × DutyIx) : GSem nD τ sig × ℕ × Fin 7 := (kcell (cx.1, dutyCell cx.2), 0, dutyName cx.2)

theorem duty_injective : Function.Injective fun x : DutyIx => (dutyCell x, dutyName x) := by decide

theorem tokOf_injective : Function.Injective tokOf := by
  rintro ⟨c, x⟩ ⟨c', x'⟩ h
  have h1 := kcell_injective (congrArg Prod.fst h)
  have h2 : dutyName x = dutyName x' := congrArg (fun y : GSem nD τ sig × ℕ × Fin 7 => y.2.2) h
  have h3 : x = x' := duty_injective (Prod.ext (congrArg Prod.snd h1) h2)
  have h4 : c = c' := congrArg Prod.fst h1
  rw [h3, h4]

/-- The protocol's duty tokens, on all devices. -/
def scanToks : Finset (GSem nD τ sig × ℕ × Fin 7) := Finset.univ.map ⟨tokOf, tokOf_injective⟩

/-- The ghost state at launch: the pipeline's, and the protocol's. -/
def u₀ : UU :=
  (initOf (Pipeline.cells cfgs cellOf_inj) (Pipeline.launchToks cfgs cellOf_inj), initOf scanCells scanToks)

/-- The duty tokens of device `c`'s own cells. -/
def minted (c : Dev nD) : sProp 𝕄 :=
  iprop((bigSep Finset.univ fun k => dutyTok ER (barCell c) 0 k) ∗ (bigSep Finset.univ fun k => dutyTok ER (sendCell k c) 0 k)
    ∗ bigSep Finset.univ fun k => dutyTok ER (recvCell k c) 0 k)

/-- What the launch mints for device `c`. -/
def G (c : Dev nD) : sProp 𝕄 :=
  iprop((bigSep Finset.univ fun k : CellIx => roundState ER (sched m ρ) (kcell (c, k)) 0)
    ∗ (bigSep Finset.univ fun k : CellIx => iprop(atPos ER (kcell (c, k)) 0 ∅ 0 ∗ reached ER (kcell (c, k)) 0)) ∗ minted c)

theorem mint : BI.own (ER (initOf scanCells scanToks)) ⊢ (|==> bigSep Finset.univ (G m ρ) : sProp 𝕄) := by
  have hX (Φ : GSem nD τ sig → sProp 𝕄) : bigSep scanCells Φ = bigSep Finset.univ fun c : Dev nD => bigSep Finset.univ fun k : CellIx => Φ (kcell (c, k)) := by
    unfold scanCells; rw [bigSep_map, bigSep_univ_prod]; rfl
  have hT : bigSep scanToks (fun x => (dutyTok ER x.1 x.2.1 x.2.2 : sProp 𝕄)) = bigSep Finset.univ fun c : Dev nD => minted c := by
    unfold scanToks; rw [bigSep_map, bigSep_univ_prod]
    exact bigSep_congr fun c _ => by unfold minted; rw [bigSep_univ_sum, bigSep_univ_sum]; rfl
  iintro HX
  imod (Rounds.fund ER (sched m ρ) scanCells scanToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-! ## The cells' invariants -/

theorem unscoped_eq (c : Dev nD) : (unscopedSems0 c : sProp 𝕄) = semVal (barCell c) 0 := by
  unfold unscopedSems0; rw [bigSep_eq_bigSepL_of_eq [SemLoc.reg barS] (by decide) (by decide)]; rfl

theorem ownSems_eq (c : Dev nD) : (Pipeline.ownSems0 (Ix := Unit) (Name := ℕ) (U := UU) (Lvl := ℕ) (Val := Elt F) (τ := τ) osem c : sProp 𝕄)
    = iprop((bigSep Finset.univ fun k => semVal (sendCell k c) 0) ∗ bigSep Finset.univ fun k => semVal (recvCell k c) 0) := by
  unfold Pipeline.ownSems0; rw [bigSep_univ_sum]; rfl

theorem sems_eq (c : Dev nD) :
    (bigSep Finset.univ fun k : CellIx => (semVal (kcell (c, k)) 0 : sProp 𝕄)) = closed (F := F) c := by
  unfold closed
  rw [bigSep_univ_sum, bigSep_univ_sum, Finset.univ_unique, bigSep_singleton]; rfl

/-- One device's cells, from its semaphores at zero and what was minted. -/
theorem set_up (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ minted c) := by
  have h : iprop((bigSep Finset.univ fun k : CellIx => semVal (kcell (c, k)) 0) ∗ bigSep Finset.univ fun k : CellIx => roundState ER (sched m ρ) (kcell (c, k)) 0)
      ⊢ (|={Set.univ}=> bigSep Finset.univ fun k => iprop(∃ κ : ℕ, cellInv ER (sched m ρ) κ (kcell (c, k))) : sProp 𝕄) := by
    rw [← bigSep_sep']
    exact (bigSep_mono fun k _ => (Rounds.body_intro ER (sched m ρ) (kcell (c, k))).trans inv_alloc).trans (bigSep_fupd _ _)
  unfold G
  rw [ownSems_eq, unscoped_eq]
  iintro ⟨⟨Hs, Hr⟩, Hb, Hst, Hat, Htok⟩
  imod h $$ [Hs Hr Hb Hst] with Hinv
  · rw [sems_eq]; unfold closed
    iframe Hs Hr Hb Hst
  imodintro
  iframe Hinv Hat Htok

/-! ## Dealing the tokens -/

/-- For each distance, dealing along a permutation of the devices. -/
theorem deal (e : Fin 7 → Dev nD ≃ Dev nD) (Ψ : Fin 7 → Dev nD → sProp 𝕄) :
    (bigSep Finset.univ fun c => bigSep Finset.univ fun k => Ψ k c) = bigSep Finset.univ fun c => bigSep Finset.univ fun k => Ψ k (e k c) := by
  let E : Dev nD × Fin 7 ≃ Dev nD × Fin 7 :=
    ⟨fun p => (e p.2 p.1, p.2), fun p => ((e p.2).symm p.1, p.2), fun p => by simp, fun p => by simp⟩
  rw [← bigSep_univ_prod (fun p : Dev nD × Fin 7 => Ψ p.2 p.1), bigSep_univ_equiv E, bigSep_univ_prod]
  rfl

/-- The tokens device `c` discharges with. -/
def dealt (c : Dev nD) : sProp 𝕄 :=
  iprop((bigSep Finset.univ fun k => dutyTok ER (barCell (behind k c)) 0 k) ∗ bigSep Finset.univ fun k => toks (F := F) k c)

/-- A barrier's token goes to the device that will signal it, a receive semaphore's to the device that will send to it. -/
theorem deal_toks : (bigSep Finset.univ fun c : Dev nD => (minted c : sProp 𝕄)) ⊢ bigSep Finset.univ fun c : Dev nD => dealt c := by
  unfold minted dealt toks
  simp only [bigSep_sep']
  rw [deal (fun k => (shift k).symm) fun k c => dutyTok ER (barCell c) 0 k, deal (fun k => shift k) fun k c => dutyTok ER (recvCell k c) 0 k]
  iintro ⟨H1, H2, H3⟩
  isplitl [H1]; · iexact H1
  isplitl [H2]; · iexact H2
  iexact H3

/-- A place on each of device `c`'s cells. -/
def places (c : Dev nD) : sProp 𝕄 := bigSep Finset.univ fun k : CellIx => atPos ER (kcell (c, k)) 0 ∅ 0

theorem ghost_intro (K : Dev nD × CellIx → ℕ) (c : Dev nD) : iprop(records m ρ K ∗ places c ∗ dealt c) ⊢ ghost m ρ c := by
  have e : (places c : sProp 𝕄) = iprop(atPos ER (barCell c) 0 ∅ 0 ∗ (bigSep Finset.univ fun k => atPos ER (sendCell k c) 0 ∅ 0) ∗ (bigSep Finset.univ fun k => atPos ER (recvCell k c) 0 ∅ 0)) := by
    unfold places
    rw [bigSep_univ_sum, bigSep_univ_sum, Finset.univ_unique, bigSep_singleton]; rfl
  rw [e]
  unfold dealt ghost linear
  iintro ⟨#HR, ⟨Hb, Hs, Hr⟩, Hd, Ht⟩
  iexists K
  iframe HR Hb Hs Hr Hd Ht

theorem with_records (R : sProp 𝕄) [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ minted c) : sProp 𝕄)
      ⊢ bigSep Finset.univ (ghost m ρ) := by
  simp only [bigSep_sep']
  rw [← bigSep_univ_prod (fun ck : Dev nD × CellIx => iprop(∃ κ : ℕ, cellInv ER (sched m ρ) κ (kcell ck))),
    ← bigSep_univ_prod (fun ck : Dev nD × CellIx => (reached ER (kcell ck) 0 : sProp 𝕄))]
  iintro ⟨HI, ⟨Hat, #HR⟩, Htok⟩
  icases (BI.bigSep_exists_pi Finset.univ (fun (ck : Dev nD × CellIx) (κ : ℕ) => (cellInv ER (sched m ρ) κ (kcell ck) : sProp 𝕄))) $$ HI with ⟨%K, #HI⟩
  ihave Htk := (deal_toks (F := F)) $$ Htok
  iapply (with_records (records m ρ K) fun c => ghost_intro m ρ K c)
  isplitr
  · unfold records; isplitl; · iexact HI
    iexact HR
  · rw [bigSep_sep']
    isplitl [Hat]
    · unfold places; iexact Hat
    · iexact Htk

/-- The launch's one step over all devices: the invariants are set up and the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => set_up m ρ c).trans (bigSep_fupd _ _)).trans (BI.fupd_mono (regroup m ρ))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (launch_hopes (F := F) c) $$ Hcr
  imodintro
  unfold start
  iframe HG Hc Hlev

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ tPts rPts
  iintro ⟨Hs, -, Ht, Hr⟩
  iframe Hs Ht Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, unscoped_eq]
  unfold Φ₁ closed tPts rPts
  iintro ⟨⟨Hb, Hs, Hv⟩, Ht, Hr⟩
  iframe Hb Hs Hv Ht Hr

theorem stage_waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

end Cert.Scan

end
-- ==== Proof.Run.lean ====
/-
# The run

Every device's program runs to its end, from any memory, over any float values.
-/
module

public import proofs.«01_k».proof.Proof.Launch
public import Idealize.ShloMosaic.Lib.Quiescent
public import Idealize.ShloMosaic.Lib.Pipeline.CollectiveSegs

@[expose] public section

noncomputable section

namespace Cert.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What array `w` of device `c` holds at the end. -/
def finalA (c : Dev nD) (w : Fin cfg0.W) : Buf (Elt F) ((cfg0.win w).arr.view.loc (c : Thread nD τ)) := (dats m ρ 0 c).arrAt w cfg0.N

/-- Every array of every device holds that. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, over any float values, from any memory with the counters at zero: every fair run ends, without a
    fault, with the arrays as computed and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_whole m ρ)
    (hdistinct := winFacts0.arr_inj)
    (O₀ := O₀) (howed₀ := fun _ => rfl) (howedN := fun _ => rfl)
    (L := L) (lv := lv) (hL := L_of_ne) (hwaits := stage_waits m ρ)
    (G := G m ρ) (G' := ghost m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it began. -/
theorem final_x (c : Dev nD) : finalA m ρ c (0 : Fin 2) = m ((c : Thread nD τ).loc main_arg0) :=
  (dats (F := F) m ρ 0 c).arrAt_in (0 : Fin 2) rfl _

/-- The staged block is the device's argument. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result's array ends at what the body left in its staging buffer. -/
theorem final_o (c : Dev nD) : finalA m ρ c (1 : Fin 2) = outAt m ρ c := by
  have hz : (fun a => (win0_1.index (0 : Fin 1)) a * main_v1.ty.shape.size a) = fun _ => 0 := funext fun a => by fin_cases a <;> decide
  have hr := Memref.read_access_unit_zero (Elt F) main_v1 hz (fun a => by fin_cases a <;> decide) (finalA m ρ c (1 : Fin 2))
  refine hr.symm.trans ?_
  show (win0_1.blk (0 : Fin 1)).view.read (Elt F) (finalA m ρ c (1 : Fin 2)) = outAt m ρ c
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The frame of the kernel over any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (final_x m ρ c), h.2⟩) (run_main m ρ)

end Cert.Scan

end
-- ==== Proof.Frames.lean ====
/-
# The three frames

Every program ends, leaves its argument as it was and its counters at zero. The kernel as compiled and its
idealization are the same program text, so the run is carried from the one to the other by an equation of their
body tables.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

noncomputable section

namespace Cert.Scan

open Idealize.ShloMosaic Idealize.ShloMosaic.TcCoe Idealize.SL.Sem

variable {F : FTy → Type} [FloatOps F]

/-- The two programs have the same body table for their kernels. -/
theorem bodies_eq : Cert.Kernel.defs₀ (F := F) = Cert.KernelIdeal.defs₀ (F := F) := by
  unfold Cert.Kernel.defs₀ Cert.KernelIdeal.defs₀
  refine congrArg Defs.onTc ?_
  funext t b
  match t, b with
  | 0, (i, b) => dsimp only; exact rfl

/-- The two programs have the same body table. -/
theorem defs_eq : Cert.Kernel.defs (F := F) = Cert.KernelIdeal.defs (F := F) := by
  unfold Cert.Kernel.defs Cert.KernelIdeal.defs
  rw [bodies_eq]
  rfl

/-- The frame of the kernel as compiled. -/
theorem frame_kernel : Cert.quiescent_Kernel := fun m ρ _ => by
  rw [defs_eq]
  exact frame_any (F := Bits) m ρ

/-- The frame of its idealization. -/
theorem frame_ideal : Cert.quiescent_KernelIdeal := fun m ρ _ => frame_any (F := Ideal) m ρ

/-- The frame of the reference: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Scan

end
-- ==== Proof.Block.lean ====
/-
# What one device computes, over the reals

Its column totals, the running sums of its own block, and the sum of the totals that reached it.
-/
module

public import proofs.«01_k».proof.Proof.Gather
public import Idealize.ShloMosaic.Lib.Pointwise
public import Idealize.ShloMosaic.Lib.WordCmp

@[expose] public section

noncomputable section

namespace Cert.Scan

open Cert.KernelIdeal Cert.KernelIdeal.Gen
open Idealize.ShloMosaic Idealize.ShloMosaic.TcCoe

/-- A device's totals hold, for each column of its block, the sum of the column. -/
theorem total_apply (x : FVec Ideal S256x256 .bf16) (q : Fin 256) :
    (k0_pay2 (F := Ideal) (k0_pay1 (F := Ideal) x) (ix2 (0 : Fin 1) q) : EReal) = ∑ r : Fin 256, (x (ix2 r q) : EReal) := by
  pointwise [k0_pay2, k0_pay1]

/-- The triangle of ones: one on and below the diagonal, zero above it. -/
theorem triangle_apply (r k : Fin 256) :
    ((k0_pay3 : FVec Ideal S256x256 .bf16) (ix2 r k) : EReal) = if k.val ≤ r.val then 1 else 0 := by
  have hw : IntOp.cmpi .sge (BitVec.ofNat 32 r.val) (BitVec.ofNat 32 k.val) = 1#1 ↔ k.val ≤ r.val :=
    Idealize.ShloMosaic.WordCmp.cmpi_sge_ofNat_eq_one_iff (by have := r.isLt; omega) (by have := k.isLt; omega)
  pointwise [k0_pay3]
  by_cases h : k.val ≤ r.val
  · rw [if_pos h, hw.mpr h]
    show (((1 : ℤ) : ℝ) : EReal) = 1
    simp
  · rw [if_neg h, ValueIdx.eq_zero_of_ne_one fun hh => h (hw.mp hh)]
    show (((0 : ℤ) : ℝ) : EReal) = 0
    simp

/-- The triangle times the block: entry `(p, q)` is the sum of column `q` down to row `p`. -/
theorem local_apply (x : FVec Ideal S256x256 .bf16) (p q : Fin 256) :
    (k0_pay4 (k0_pay3 : FVec Ideal S256x256 .bf16) x (ix2 p q) : EReal) = ∑ r : Fin 256, if r.val ≤ p.val then (x (ix2 r q) : EReal) else 0 := by
  pointwise [k0_pay4]
  refine Finset.sum_congr rfl fun r _ => ?_
  rw [triangle_apply p r]
  split
  · exact one_mul _
  · exact zero_mul _

/-- The result: the local running sum, and of each slot what a device behind put there. -/
theorem out_apply (c : Dev nD) (y : FVec Ideal S256x256 .f32) (z : FVec Ideal S7x1x256 .f32) (p q : Fin 256) :
    (k0_pay5 (word c) y z (ix2 p q) : EReal) = (y (ix2 p q) : EReal) + ∑ k : Fin 7, if Receives k c then (z (ix3 k (0 : Fin 1) q) : EReal) else 0 := by
  pointwise [k0_pay5]
  refine congrArg (fun s : EReal => (y (ix2 p q) : EReal) + s) (Finset.sum_congr rfl fun k _ => ?_)
  by_cases h : Receives k c
  · rw [if_pos h]
    exact if_pos ((mask_iff k c).mpr h)
  · rw [if_neg h]
    exact if_neg fun hh => h ((mask_iff k c).mp hh)

end Cert.Scan

end
-- ==== Proof.Sums.lean ====
/-
# Sums of prefixes

Three ways in which a prefix sum is written: as a masked sum, by whole blocks from the nearest back, and through a
window that reaches back from the end of the prefix.
-/
module

public import Mathlib.Algebra.BigOperators.Fin
public import Mathlib.Algebra.BigOperators.Intervals

@[expose] public section

namespace Cert.Scan

variable {M : Type*} [AddCommMonoid M] (f : ℕ → M)

/-- The terms up to `p` of a longer sum are the prefix of length `p + 1`. -/
theorem sum_upto {n p : ℕ} (h : p < n) :
    (∑ r : Fin n, if r.val ≤ p then f r.val else 0) = ∑ r ∈ Finset.range (p + 1), f r := by
  rw [Fin.sum_univ_eq_sum_range (fun r => if r ≤ p then f r else 0) n, ← Finset.sum_filter]
  refine Finset.sum_congr (Finset.ext fun r => ?_) fun _ _ => rfl
  simp only [Finset.mem_filter, Finset.mem_range]
  omega

/-- What lies `1, 2, …` places behind `c` is everything before `c`. -/
theorem sum_behind {n c : ℕ} (h : c ≤ n) :
    (∑ k : Fin n, if k.val + 1 ≤ c then f (c - (k.val + 1)) else 0) = ∑ d ∈ Finset.range c, f d := by
  rw [Fin.sum_univ_eq_sum_range (fun k => if k + 1 ≤ c then f (c - (k + 1)) else 0) n, ← Finset.sum_filter,
    ← Finset.sum_range_reflect]
  refine Finset.sum_congr (Finset.ext fun r => ?_) fun k _ => congrArg f ?_
  · simp only [Finset.mem_filter, Finset.mem_range]
    omega
  · omega

/-- The sums of `c` blocks of `n` terms make the prefix of length `n * c`. -/
theorem sum_blocks (n c : ℕ) :
    (∑ d ∈ Finset.range c, ∑ r ∈ Finset.range n, f (n * d + r)) = ∑ r ∈ Finset.range (n * c), f r := by
  induction c with
  | zero => rw [Nat.mul_zero, Finset.sum_range_zero, Finset.sum_range_zero]
  | succ c ih => rw [Finset.sum_range_succ, ih, Nat.mul_succ, Finset.sum_range_add]

/-- A window of `n + 1` terms that ends at `p`, its places before the start empty, is the prefix of length `p + 1`. -/
theorem sum_window {n p : ℕ} (h : p ≤ n) :
    (∑ w : Fin (n + 1), if n ≤ p + w.val then f (p + w.val - n) else 0) = ∑ r ∈ Finset.range (p + 1), f r := by
  rw [Fin.sum_univ_eq_sum_range (fun w => if n ≤ p + w then f (p + w - n) else 0) (n + 1), ← Finset.sum_filter,
    show (Finset.range (n + 1)).filter (fun w => n ≤ p + w) = Finset.Ico (n - p) (n + 1) from Finset.ext fun w => by
      simp only [Finset.mem_filter, Finset.mem_range, Finset.mem_Ico]
      omega,
    Finset.sum_Ico_eq_sum_range, show n + 1 - (n - p) = p + 1 by omega]
  exact Finset.sum_congr rfl fun r _ => congrArg f (by omega)

/-- Adding to an accumulator along a list adds the sum of the list. -/
theorem foldl_add {ι : Type*} (g : ι → M) (l : List ι) (z : M) : l.foldl (fun s i => s + g i) z = z + (l.map g).sum := by
  induction l generalizing z with
  | nil => simp
  | cons i l ih => rw [List.foldl_cons, ih, List.map_cons, List.sum_cons, add_assoc]

end Cert.Scan

end
-- ==== Proof.Reference.lean ====
/-
# What the reference computes, over the reals

Entry `(p, q)` of its result is the sum of column `q` down to row `p`.
-/
module

public import proofs.«01_k».proof.Proof.Gen.ReferenceIdeal.Run
public import proofs.«01_k».proof.Proof.Sums
public import Idealize.ShloMosaic.Lib.Pointwise

@[expose] public section

noncomputable section

namespace Cert.Scan

open Cert.ReferenceIdeal Cert.ReferenceIdeal.Gen
open Idealize.ShloMosaic Idealize.ShloMosaic.TcCoe

/-- Column `q` of an array of 2048 rows, as a sequence: zero after its end. -/
def column (x : FVec Ideal S2048x256 .bf16) (q : Fin 256) (r : ℕ) : EReal := if h : r < 2048 then x (ix2 (⟨r, h⟩ : Fin 2048) q) else 0

/-- The reference's result, of its argument. -/
def refOut (x : FVec Ideal S2048x256 .bf16) : FVec Ideal S2048x256 .bf16 :=
  Host.reduceWindowAdd ![2048, 1] ![1, 1] ![2047, 0] ![0, 0] x (broadcastInDim S_ ![] bcast_S_S_ (constant S_ .bf16 0x0000#16))
    reduceWindows_S2048x256_S2048x256_w2048s1p2047_0_w1s1p0_0 h_S_

/-- What stands at place `w` of the window at row `p` of column `q`: an entry of the argument, or zero outside it. -/
def windowAt (x : FVec Ideal S2048x256 .bf16) (p : Fin 2048) (q : Fin 256) (w : (⟨2, ![2048, 1]⟩ : Shape).Idx) : EReal :=
  if hin : ∀ a : Fin 2, (![2047, 0] : Fin 2 → ℕ) a ≤ (ix2 p q a).val * (![1, 1] : Fin 2 → ℕ) a + (w a).val
      ∧ (ix2 p q a).val * (![1, 1] : Fin 2 → ℕ) a + (w a).val - (![2047, 0] : Fin 2 → ℕ) a < S2048x256.size a
    then x fun a => ⟨(ix2 p q a).val * (![1, 1] : Fin 2 → ℕ) a + (w a).val - (![2047, 0] : Fin 2 → ℕ) a, (hin a).2⟩ else 0

/-- It is entry `p + w - 2047` of the column, if there is one. -/
theorem windowAt_eq (x : FVec Ideal S2048x256 .bf16) (p : Fin 2048) (q : Fin 256) (w : Fin 2048) (b : Fin 1) :
    windowAt x p q (ix2 w b) = if 2047 ≤ p.val + w.val then column x q (p.val + w.val - 2047) else 0 := by
  unfold windowAt
  have hp := p.isLt
  have hw := w.isLt
  have hq := q.isLt
  have hb := b.isLt
  split
  · next hin =>
    have h0 : 2047 ≤ p.val * 1 + w.val ∧ p.val * 1 + w.val - 2047 < 2048 := hin 0
    rw [if_pos (by omega)]
    unfold column
    rw [dif_pos (by omega)]
    refine congrArg x (funext fun a => Fin.ext ?_)
    match a with
    | ⟨0, _⟩ =>
      show p.val * 1 + w.val - 2047 = p.val + w.val - 2047
      rw [Nat.mul_one]
    | ⟨1, _⟩ =>
      show q.val * 1 + b.val - 0 = q.val
      omega
  · next hin =>
    refine (if_neg fun hle => hin fun a => ?_).symm
    match a with
    | ⟨0, _⟩ =>
      show 2047 ≤ p.val * 1 + w.val ∧ p.val * 1 + w.val - 2047 < 2048
      omega
    | ⟨1, _⟩ =>
      show 0 ≤ q.val * 1 + b.val ∧ q.val * 1 + b.val - 0 < 256
      omega

/-- The reference's result holds the sums of the prefixes of the columns. -/
theorem refOut_apply (x : FVec Ideal S2048x256 .bf16) (p : Fin 2048) (q : Fin 256) :
    (refOut x (ix2 p q) : EReal) = ∑ r ∈ Finset.range (p.val + 1), column x q r := by
  have hz : ((broadcastInDim S_ ![] bcast_S_S_ (constant S_ .bf16 0x0000#16) : FVec Ideal S_ .bf16) (Shape.Idx.first h_S_) : EReal) = 0 := by
    pointwise
  unfold refOut Host.reduceWindowAdd
  rw [hz]
  show Ideal.hostReduceWindowAdd _ _ _ _ _ x 0 (ix2 p q) = _
  unfold Ideal.hostReduceWindowAdd Host.reduceWindow
  refine (foldl_add _ _ _).trans ?_
  rw [zero_add, ← Fin.sum_univ_def]
  refine (Finset.sum_congr rfl fun i _ => show _ = windowAt x p q ((⟨2, ![2048, 1]⟩ : Shape).rowMajor.symm i) from ?_).trans ?_
  · unfold windowAt
    exact dite_congr rfl (fun _ => rfl) fun _ => rfl
  refine (Equiv.sum_comp (⟨2, ![2048, 1]⟩ : Shape).rowMajor.symm (windowAt x p q)).trans ((sum_idx2 (M := EReal) _).trans ?_)
  rw [← sum_window (column x q) (n := 2047) (by have := p.isLt; omega)]
  refine Finset.sum_congr rfl fun w _ => ?_
  rw [Fin.sum_univ_one]
  exact windowAt_eq x p q w 0

end Cert.Scan

end
-- ==== Proof.Equation.lean ====
/-
# The equation

What a device computes from the blocks is its block of what the reference computes from the whole array.
-/
module

public import proofs.«01_k».proof.Proof.Body
public import proofs.«01_k».proof.Proof.Block
public import proofs.«01_k».proof.Proof.Reference
public import Idealize.ShloMosaic.Lib.Layout

@[expose] public section

noncomputable section

namespace Cert.Scan

open Cert.KernelIdeal Cert.KernelIdeal.Gen
open Idealize.ShloMosaic Idealize.ShloMosaic.TcCoe

/-- Device `c`'s block of an array of 2048 rows. -/
abbrev rowsOf (c : Dev nD) (v : FVec Ideal ⟨2, ![2048, 256]⟩ .bf16) : FVec Ideal ⟨2, ![256, 256]⟩ .bf16 :=
  Layout.block ⟨2, ![256, 256]⟩ ⟨2, ![2048, 256]⟩ 0 8 c v

/-- Row `p` of block `c` is row `256 * c + p` of the whole. -/
theorem rowsOf_apply (c : Dev nD) (v : FVec Ideal ⟨2, ![2048, 256]⟩ .bf16) (p q : Fin 256) (h : 256 * c.val + p.val < 2048) :
    rowsOf c v (ix2 p q) = v (ix2 (⟨256 * c.val + p.val, h⟩ : Fin 2048) q) := by
  refine (Layout.block_apply ..).trans (congrArg v (funext fun a => Fin.ext ?_))
  match a with
  | ⟨0, _⟩ =>
    show c.val * 256 + p.val = 256 * c.val + p.val
    rw [Nat.mul_comm]
  | ⟨1, _⟩ => rfl

/-- The rows of block `c` are the terms from `256 * c` on of the columns. -/
theorem rowsOf_column (c : Dev nD) (v : FVec Ideal ⟨2, ![2048, 256]⟩ .bf16) (p q : Fin 256) :
    (rowsOf c v (ix2 p q) : EReal) = column v q (256 * c.val + p.val) := by
  have h : 256 * c.val + p.val < 2048 := by have hc : c.val < 8 := c.isLt; have := p.isLt; omega
  rw [rowsOf_apply c v p q h]
  unfold column
  rw [dif_pos h]

/-- The device `k + 1` places behind, when there is one, has that smaller number. -/
theorem behind_val : ∀ (k : Fin 7) (c : Dev nD), Receives k c → (behind k c).val = c.val - (k.val + 1) := by decide

/-- The sum of what the slots hold, when slot `k` holds the sums over the block `k + 1` places behind: the sums of the
    columns over all the blocks before this one. -/
theorem slots_sum (c : Dev nD) (v : FVec Ideal ⟨2, ![2048, 256]⟩ .bf16) (z : FVec Ideal S7x1x256 .f32) (q : Fin 256)
    (hz : ∀ k : Fin 7, Receives k c →
      (z (ix3 k (0 : Fin 1) q) : EReal) = ∑ r ∈ Finset.range 256, column v q (256 * (c.val - (k.val + 1)) + r)) :
    (∑ k : Fin 7, if Receives k c then (z (ix3 k (0 : Fin 1) q) : EReal) else 0) = ∑ r ∈ Finset.range (256 * c.val), column v q r := by
  have hc : c.val < 8 := c.isLt
  rw [← sum_blocks, ← sum_behind (fun d => ∑ r ∈ Finset.range 256, column v q (256 * d + r)) (n := 7) (by omega)]
  refine Finset.sum_congr rfl fun k _ => ?_
  by_cases h : Receives k c
  · rw [if_pos h, if_pos h, hz k h]
  · rw [if_neg h, if_neg h]

variable (m : (ℓ : Loc nD τ sig) → Buf (Elt Ideal) ℓ) (ρ : Dev nD → PrngReg) (v : FVec Ideal ⟨2, ![2048, 256]⟩ .bf16)
  (hx : ∀ c : Dev nD, xstg m ρ c = rowsOf c v)
include hx

/-- What lands in slot `k` of a device: the sum of each column over the block `k + 1` places behind. -/
theorem landed_apply (c : Dev nD) (k : Fin 7) (q : Fin 256) (h : Receives k c) :
    (landed m ρ c (ix3 k (0 : Fin 1) q) : EReal) = ∑ r ∈ Finset.range 256, column v q (256 * (c.val - (k.val + 1)) + r) := by
  refine (total_apply (xstg m ρ (behind k c)) q).trans ?_
  rw [hx, ← Fin.sum_univ_eq_sum_range (fun r => column v q (256 * (c.val - (k.val + 1)) + r)) 256]
  refine Finset.sum_congr rfl fun r _ => ?_
  rw [← behind_val k c h]
  exact rowsOf_column (behind k c) v r q

/-- The result of a device is its block of the reference's result. -/
theorem outAt_eq (c : Dev nD) : outAt m ρ c = rowsOf c (refOut v) := by
  funext i
  obtain ⟨p, q, rfl⟩ : ∃ (p q : Fin 256), i = ix2 p q := ⟨i 0, i 1, eq_ix2 i⟩
  have hp : 256 * c.val + p.val < 2048 := by have hc : c.val < 8 := c.isLt; have := p.isLt; omega
  rw [rowsOf_apply c _ p q hp]
  refine Eq.trans ?_ (refOut_apply v ⟨256 * c.val + p.val, hp⟩ q).symm
  refine (out_apply c _ _ p q).trans ?_
  have hl : (k0_pay4 (k0_pay3 : FVec Ideal S256x256 .bf16) (xstg m ρ c) (ix2 p q) : EReal) = ∑ r ∈ Finset.range (p.val + 1), column v q (256 * c.val + r) := by
    refine (local_apply _ p q).trans ?_
    rw [← sum_upto (fun r => column v q (256 * c.val + r)) p.isLt, hx]
    exact Finset.sum_congr rfl fun r _ => by rw [rowsOf_column c v r q]
  refine (congrArg₂ (fun a b : EReal => a + b) hl (slots_sum c v (landed m ρ c) q fun k h => landed_apply m ρ v hx c k q h)).trans ?_
  rw [add_comm, ← Finset.sum_range_add, Nat.add_assoc]

end Cert.Scan

end
-- ==== Proof.Algebraic.lean ====
/-
# The value claim

Run on the blocks of one array, the kernel leaves on each device its block of what the reference makes of the array.
-/
module

public import proofs.«01_k».proof.Defs
public import proofs.«01_k».proof.Proof.Run
public import proofs.«01_k».proof.Proof.Equation

@[expose] public section

noncomputable section

namespace Cert.Scan

open Idealize.ShloMosaic Idealize.ShloMosaic.TcCoe Idealize.SL.Sem

/-- The kernel's results are, device by device, the blocks of the reference's. -/
theorem algebraic : Cert.algebraic_KernelIdeal_ReferenceIdeal := by
  intro m ρ m' ρ' _ hm
  refine ⟨refOut (m' (((0 : Dev Cert.ReferenceIdeal.nD).tc : Thread _ Cert.ReferenceIdeal.τ).loc Cert.ReferenceIdeal.main_arg0)), ?_, ?_⟩
  · refine (θ_run Cert.KernelIdeal.defs _ _).mono (fun _ h c => ⟨(h.1 c (1 : Fin 2)).trans ((final_o m ρ c).trans ?_),
      (h.1 c (0 : Fin 2)).trans (final_x m ρ c)⟩) (run_main (F := Ideal) m ρ)
    exact outAt_eq m ρ _ (fun d => (xstg_eq m ρ d).trans (hm d)) c
  · exact (θ_run Cert.ReferenceIdeal.defs _ _).mono (fun _ h => h 0) (Cert.ReferenceIdeal.Value.run (F := Ideal) m' ρ')

end Cert.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel, its idealization and the reference run to their end, leave their argument and end with every counter at
    zero; the idealization is the kernel's own text; each device's result is its block of the reference's. -/
theorem claim : Cert.Claim := ⟨Cert.Kernel.Gen.facts, Cert.KernelIdeal.Gen.facts, Cert.ReferenceIdeal.Gen.facts,
  Cert.Scan.frame_kernel, Cert.Scan.frame_ideal, Cert.Scan.frame_reference, trivial, Cert.Scan.algebraic⟩

end Cert.Proof

end
